-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S6x4096x128 : Shape := ⟨3, ![6, 4096, 128]⟩
abbrev S16x256x128 : Shape := ⟨3, ![16, 256, 128]⟩
abbrev S_ : Shape := ⟨0, ![]⟩
abbrev S6 : Shape := ⟨1, ![6]⟩
abbrev S16 : Shape := ⟨1, ![16]⟩
abbrev S1 : Shape := ⟨1, ![1]⟩
abbrev S1x4096x128 : Shape := ⟨3, ![1, 4096, 128]⟩
abbrev S256x128 : Shape := ⟨2, ![256, 128]⟩
abbrev S1x256x128 : Shape := ⟨3, ![1, 256, 128]⟩

abbrev nBuf : Space → Nat
  | .hbm => 3
  | .vmem => 4
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .bf16⟩
  | .local _ .vmem, ⟨0, _⟩ => ⟨S4096x128, .bf16⟩
  | .local _ .vmem, ⟨1, _⟩ => ⟨S256x4096, .f32⟩
  | .local _ .vmem, ⟨2, _⟩ => ⟨S6x4096x128, .f32⟩
  | .local _ .vmem, ⟨3, _⟩ => ⟨S16x256x128, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 17 40 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 16

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_2 : BitVec 32 := 0#32
  let v6 : BitVec 1 := Scalar.cmpi .ne v5 c0_i32_2
  v6

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev1 : Nat :=
  let c0_i32_686 : BitVec 32 := 0#32
  let c0_i32_684 : BitVec 32 := 0#32
  let c1_i32_685 : BitVec 32 := 1#32
  let v865 : BitVec 32 := Scalar.muli c0_i32_684 c1_i32_685
  let v866 : BitVec 32 := Scalar.addi c0_i32_686 v865
  v866.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v7 : BitVec 1 := Scalar.cmpi .ne v2 c1_i32_3
  let v8 : BitVec 32 := Scalar.extui v7
  let c0_i32_4 : BitVec 32 := 0#32
  let v9 : BitVec 1 := Scalar.cmpi .ne v8 c0_i32_4
  v9

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev2 : Nat :=
  let c0_i32_686 : BitVec 32 := 0#32
  let c1_i32_684 : BitVec 32 := 1#32
  let c1_i32_685 : BitVec 32 := 1#32
  let v865 : BitVec 32 := Scalar.muli c1_i32_684 c1_i32_685
  let v866 : BitVec 32 := Scalar.addi c0_i32_686 v865
  v866.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_5 : BitVec 32 := 0#32
  let v12 : BitVec 1 := Scalar.cmpi .ne v11 c0_i32_5
  v12

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev3 : Nat :=
  let c0_i32_686 : BitVec 32 := 0#32
  let c2_i32_684 : BitVec 32 := 2#32
  let c1_i32_685 : BitVec 32 := 1#32
  let v865 : BitVec 32 := Scalar.muli c2_i32_684 c1_i32_685
  let v866 : BitVec 32 := Scalar.addi c0_i32_686 v865
  v866.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_6 : BitVec 32 := 0#32
  let v15 : BitVec 1 := Scalar.cmpi .ne v14 c0_i32_6
  v15

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev4 : Nat :=
  let c0_i32_686 : BitVec 32 := 0#32
  let c3_i32_684 : BitVec 32 := 3#32
  let c1_i32_685 : BitVec 32 := 1#32
  let v865 : BitVec 32 := Scalar.muli c3_i32_684 c1_i32_685
  let v866 : BitVec 32 := Scalar.addi c0_i32_686 v865
  v866.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_7 : BitVec 32 := 0#32
  let v18 : BitVec 1 := Scalar.cmpi .ne v17 c0_i32_7
  v18

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev5 : Nat :=
  let c0_i32_686 : BitVec 32 := 0#32
  let c4_i32_684 : BitVec 32 := 4#32
  let c1_i32_685 : BitVec 32 := 1#32
  let v865 : BitVec 32 := Scalar.muli c4_i32_684 c1_i32_685
  let v866 : BitVec 32 := Scalar.addi c0_i32_686 v865
  v866.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_8 : BitVec 32 := 0#32
  let v21 : BitVec 1 := Scalar.cmpi .ne v20 c0_i32_8
  v21

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev6 : Nat :=
  let c0_i32_686 : BitVec 32 := 0#32
  let c5_i32_684 : BitVec 32 := 5#32
  let c1_i32_685 : BitVec 32 := 1#32
  let v865 : BitVec 32 := Scalar.muli c5_i32_684 c1_i32_685
  let v866 : BitVec 32 := Scalar.addi c0_i32_686 v865
  v866.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_9 : BitVec 32 := 0#32
  let v24 : BitVec 1 := Scalar.cmpi .ne v23 c0_i32_9
  v24

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev7 : Nat :=
  let c0_i32_686 : BitVec 32 := 0#32
  let c6_i32_684 : BitVec 32 := 6#32
  let c1_i32_685 : BitVec 32 := 1#32
  let v865 : BitVec 32 := Scalar.muli c6_i32_684 c1_i32_685
  let v866 : BitVec 32 := Scalar.addi c0_i32_686 v865
  v866.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_10 : BitVec 32 := 0#32
  let v27 : BitVec 1 := Scalar.cmpi .ne v26 c0_i32_10
  v27

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev8 : Nat :=
  let c0_i32_686 : BitVec 32 := 0#32
  let c7_i32_684 : BitVec 32 := 7#32
  let c1_i32_685 : BitVec 32 := 1#32
  let v865 : BitVec 32 := Scalar.muli c7_i32_684 c1_i32_685
  let v866 : BitVec 32 := Scalar.addi c0_i32_686 v865
  v866.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_11 : BitVec 32 := 0#32
  let v30 : BitVec 1 := Scalar.cmpi .ne v29 c0_i32_11
  v30

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev9 : Nat :=
  let c0_i32_686 : BitVec 32 := 0#32
  let c8_i32_684 : BitVec 32 := 8#32
  let c1_i32_685 : BitVec 32 := 1#32
  let v865 : BitVec 32 := Scalar.muli c8_i32_684 c1_i32_685
  let v866 : BitVec 32 := Scalar.addi c0_i32_686 v865
  v866.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_12 : BitVec 32 := 0#32
  let v33 : BitVec 1 := Scalar.cmpi .ne v32 c0_i32_12
  v33

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev10 : Nat :=
  let c0_i32_686 : BitVec 32 := 0#32
  let c9_i32_684 : BitVec 32 := 9#32
  let c1_i32_685 : BitVec 32 := 1#32
  let v865 : BitVec 32 := Scalar.muli c9_i32_684 c1_i32_685
  let v866 : BitVec 32 := Scalar.addi c0_i32_686 v865
  v866.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_13 : BitVec 32 := 0#32
  let v36 : BitVec 1 := Scalar.cmpi .ne v35 c0_i32_13
  v36

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev11 : Nat :=
  let c0_i32_686 : BitVec 32 := 0#32
  let c10_i32_684 : BitVec 32 := 10#32
  let c1_i32_685 : BitVec 32 := 1#32
  let v865 : BitVec 32 := Scalar.muli c10_i32_684 c1_i32_685
  let v866 : BitVec 32 := Scalar.addi c0_i32_686 v865
  v866.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_14 : BitVec 32 := 0#32
  let v39 : BitVec 1 := Scalar.cmpi .ne v38 c0_i32_14
  v39

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev12 : Nat :=
  let c0_i32_686 : BitVec 32 := 0#32
  let c11_i32_684 : BitVec 32 := 11#32
  let c1_i32_685 : BitVec 32 := 1#32
  let v865 : BitVec 32 := Scalar.muli c11_i32_684 c1_i32_685
  let v866 : BitVec 32 := Scalar.addi c0_i32_686 v865
  v866.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_15 : BitVec 32 := 0#32
  let v42 : BitVec 1 := Scalar.cmpi .ne v41 c0_i32_15
  v42

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev13 : Nat :=
  let c0_i32_686 : BitVec 32 := 0#32
  let c12_i32_684 : BitVec 32 := 12#32
  let c1_i32_685 : BitVec 32 := 1#32
  let v865 : BitVec 32 := Scalar.muli c12_i32_684 c1_i32_685
  let v866 : BitVec 32 := Scalar.addi c0_i32_686 v865
  v866.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_16 : BitVec 32 := 0#32
  let v45 : BitVec 1 := Scalar.cmpi .ne v44 c0_i32_16
  v45

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev14 : Nat :=
  let c0_i32_686 : BitVec 32 := 0#32
  let c13_i32_684 : BitVec 32 := 13#32
  let c1_i32_685 : BitVec 32 := 1#32
  let v865 : BitVec 32 := Scalar.muli c13_i32_684 c1_i32_685
  let v866 : BitVec 32 := Scalar.addi c0_i32_686 v865
  v866.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_17 : BitVec 32 := 0#32
  let v48 : BitVec 1 := Scalar.cmpi .ne v47 c0_i32_17
  v48

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev15 : Nat :=
  let c0_i32_686 : BitVec 32 := 0#32
  let c14_i32_684 : BitVec 32 := 14#32
  let c1_i32_685 : BitVec 32 := 1#32
  let v865 : BitVec 32 := Scalar.muli c14_i32_684 c1_i32_685
  let v866 : BitVec 32 := Scalar.addi c0_i32_686 v865
  v866.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_18 : BitVec 32 := 0#32
  let v51 : BitVec 1 := Scalar.cmpi .ne v50 c0_i32_18
  v51

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev16 : Nat :=
  let c0_i32_686 : BitVec 32 := 0#32
  let c15_i32_684 : BitVec 32 := 15#32
  let c1_i32_685 : BitVec 32 := 1#32
  let v865 : BitVec 32 := Scalar.muli c15_i32_684 c1_i32_685
  let v866 : BitVec 32 := Scalar.addi c0_i32_686 v865
  v866.toNat
def k0_off17 (d0 : Dev nD) (c0_i32_20 : BitVec 32) : Fin 2 → Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v53 : BitVec 32 := Scalar.addi v2 c1_i32_19
  let v54 : BitVec 32 := Scalar.addi v53 c0_i32_20
  let c16_i32_21 : BitVec 32 := 16#32
  let v55 : BitVec 32 := Scalar.remsi v54 c16_i32_21
  let c128_i32 : BitVec 32 := 128#32
  let v56 : BitVec 32 := Scalar.muli v55 c128_i32
  ![0, v56.toNat]
def k0_off18 (d0 : Dev nD) (c0_i32_83 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_82 : BitVec 32 := 1#32
  let v118 : BitVec 32 := Scalar.addi v2 c1_i32_82
  let v119 : BitVec 32 := Scalar.addi v118 c0_i32_83
  let c16_i32_84 : BitVec 32 := 16#32
  let v120 : BitVec 32 := Scalar.remsi v119 c16_i32_84
  let v126 : Index := Scalar.indexCast v120
  let c0_88 : Index := 0#32
  let c0_89 : Index := 0#32
  ![v126.toNat, 0, 0]
def k0_off19 (d0 : Dev nD) (c0_i32_83 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_82 : BitVec 32 := 1#32
  let v118 : BitVec 32 := Scalar.addi v2 c1_i32_82
  let v119 : BitVec 32 := Scalar.addi v118 c0_i32_83
  let c16_i32_84 : BitVec 32 := 16#32
  let v120 : BitVec 32 := Scalar.remsi v119 c16_i32_84
  ![v120.toNat]
def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v52 : BitVec 32 := Scalar.muli v2 c256_i32
  let c0_i32_94 : BitVec 32 := 0#32
  ![v52.toNat, 0]
def k0_off22 (d0 : Dev nD) (c0_i32_83 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_82 : BitVec 32 := 1#32
  let v118 : BitVec 32 := Scalar.addi v2 c1_i32_82
  let v119 : BitVec 32 := Scalar.addi v118 c0_i32_83
  let c16_i32_84 : BitVec 32 := 16#32
  let v120 : BitVec 32 := Scalar.remsi v119 c16_i32_84
  let c0_i32_95 : BitVec 32 := 0#32
  let c0_i32_96 : BitVec 32 := 0#32
  ![v120.toNat, 0, 0]
def k0_dev17 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_82 : BitVec 32 := 1#32
  let v118 : BitVec 32 := Scalar.addi v2 c1_i32_82
  let c0_i32_83 : BitVec 32 := 0#32
  let v119 : BitVec 32 := Scalar.addi v118 c0_i32_83
  let c16_i32_84 : BitVec 32 := 16#32
  let v120 : BitVec 32 := Scalar.remsi v119 c16_i32_84
  let c1_i32_92 : BitVec 32 := 1#32
  let v132 : BitVec 32 := Scalar.muli v120 c1_i32_92
  let v133 : BitVec 32 := Scalar.addi c0_i32_93 v132
  v133.toNat
def k0_dev18 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_115 : BitVec 32 := 1#32
  let v159 : BitVec 32 := Scalar.addi v2 c1_i32_115
  let c1_i32_116 : BitVec 32 := 1#32
  let v160 : BitVec 32 := Scalar.addi v159 c1_i32_116
  let c16_i32_117 : BitVec 32 := 16#32
  let v161 : BitVec 32 := Scalar.remsi v160 c16_i32_117
  let c1_i32_125 : BitVec 32 := 1#32
  let v173 : BitVec 32 := Scalar.muli v161 c1_i32_125
  let v174 : BitVec 32 := Scalar.addi c0_i32_126 v173
  v174.toNat
def k0_dev19 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_148 : BitVec 32 := 1#32
  let v200 : BitVec 32 := Scalar.addi v2 c1_i32_148
  let c2_i32_149 : BitVec 32 := 2#32
  let v201 : BitVec 32 := Scalar.addi v200 c2_i32_149
  let c16_i32_150 : BitVec 32 := 16#32
  let v202 : BitVec 32 := Scalar.remsi v201 c16_i32_150
  let c1_i32_158 : BitVec 32 := 1#32
  let v214 : BitVec 32 := Scalar.muli v202 c1_i32_158
  let v215 : BitVec 32 := Scalar.addi c0_i32_159 v214
  v215.toNat
def k0_dev20 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_181 : BitVec 32 := 1#32
  let v241 : BitVec 32 := Scalar.addi v2 c1_i32_181
  let c3_i32_182 : BitVec 32 := 3#32
  let v242 : BitVec 32 := Scalar.addi v241 c3_i32_182
  let c16_i32_183 : BitVec 32 := 16#32
  let v243 : BitVec 32 := Scalar.remsi v242 c16_i32_183
  let c1_i32_191 : BitVec 32 := 1#32
  let v255 : BitVec 32 := Scalar.muli v243 c1_i32_191
  let v256 : BitVec 32 := Scalar.addi c0_i32_192 v255
  v256.toNat
def k0_dev21 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_214 : BitVec 32 := 1#32
  let v282 : BitVec 32 := Scalar.addi v2 c1_i32_214
  let c4_i32_215 : BitVec 32 := 4#32
  let v283 : BitVec 32 := Scalar.addi v282 c4_i32_215
  let c16_i32_216 : BitVec 32 := 16#32
  let v284 : BitVec 32 := Scalar.remsi v283 c16_i32_216
  let c1_i32_224 : BitVec 32 := 1#32
  let v296 : BitVec 32 := Scalar.muli v284 c1_i32_224
  let v297 : BitVec 32 := Scalar.addi c0_i32_225 v296
  v297.toNat
def k0_dev22 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_247 : BitVec 32 := 1#32
  let v323 : BitVec 32 := Scalar.addi v2 c1_i32_247
  let c5_i32_248 : BitVec 32 := 5#32
  let v324 : BitVec 32 := Scalar.addi v323 c5_i32_248
  let c16_i32_249 : BitVec 32 := 16#32
  let v325 : BitVec 32 := Scalar.remsi v324 c16_i32_249
  let c1_i32_257 : BitVec 32 := 1#32
  let v337 : BitVec 32 := Scalar.muli v325 c1_i32_257
  let v338 : BitVec 32 := Scalar.addi c0_i32_258 v337
  v338.toNat
def k0_dev23 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v364 : BitVec 32 := Scalar.addi v2 c1_i32_280
  let c6_i32_281 : BitVec 32 := 6#32
  let v365 : BitVec 32 := Scalar.addi v364 c6_i32_281
  let c16_i32_282 : BitVec 32 := 16#32
  let v366 : BitVec 32 := Scalar.remsi v365 c16_i32_282
  let c1_i32_291 : BitVec 32 := 1#32
  let v378 : BitVec 32 := Scalar.muli v366 c1_i32_291
  let v379 : BitVec 32 := Scalar.addi c0_i32_292 v378
  v379.toNat
def k0_dev24 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v405 : BitVec 32 := Scalar.addi v2 c1_i32_314
  let c7_i32_315 : BitVec 32 := 7#32
  let v406 : BitVec 32 := Scalar.addi v405 c7_i32_315
  let c16_i32_316 : BitVec 32 := 16#32
  let v407 : BitVec 32 := Scalar.remsi v406 c16_i32_316
  let c1_i32_325 : BitVec 32 := 1#32
  let v419 : BitVec 32 := Scalar.muli v407 c1_i32_325
  let v420 : BitVec 32 := Scalar.addi c0_i32_326 v419
  v420.toNat
def k0_dev25 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_348 : BitVec 32 := 1#32
  let v446 : BitVec 32 := Scalar.addi v2 c1_i32_348
  let c8_i32_349 : BitVec 32 := 8#32
  let v447 : BitVec 32 := Scalar.addi v446 c8_i32_349
  let c16_i32_350 : BitVec 32 := 16#32
  let v448 : BitVec 32 := Scalar.remsi v447 c16_i32_350
  let c1_i32_359 : BitVec 32 := 1#32
  let v460 : BitVec 32 := Scalar.muli v448 c1_i32_359
  let v461 : BitVec 32 := Scalar.addi c0_i32_360 v460
  v461.toNat
def k0_dev26 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_382 : BitVec 32 := 1#32
  let v487 : BitVec 32 := Scalar.addi v2 c1_i32_382
  let c9_i32_383 : BitVec 32 := 9#32
  let v488 : BitVec 32 := Scalar.addi v487 c9_i32_383
  let c16_i32_384 : BitVec 32 := 16#32
  let v489 : BitVec 32 := Scalar.remsi v488 c16_i32_384
  let c1_i32_393 : BitVec 32 := 1#32
  let v501 : BitVec 32 := Scalar.muli v489 c1_i32_393
  let v502 : BitVec 32 := Scalar.addi c0_i32_394 v501
  v502.toNat
def k0_dev27 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_416 : BitVec 32 := 1#32
  let v528 : BitVec 32 := Scalar.addi v2 c1_i32_416
  let c10_i32_417 : BitVec 32 := 10#32
  let v529 : BitVec 32 := Scalar.addi v528 c10_i32_417
  let c16_i32_418 : BitVec 32 := 16#32
  let v530 : BitVec 32 := Scalar.remsi v529 c16_i32_418
  let c1_i32_427 : BitVec 32 := 1#32
  let v542 : BitVec 32 := Scalar.muli v530 c1_i32_427
  let v543 : BitVec 32 := Scalar.addi c0_i32_428 v542
  v543.toNat
def k0_dev28 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_441 : BitVec 32 := 1#32
  let v560 : BitVec 32 := Scalar.addi v2 c1_i32_441
  let c11_i32_442 : BitVec 32 := 11#32
  let v561 : BitVec 32 := Scalar.addi v560 c11_i32_442
  let c16_i32_443 : BitVec 32 := 16#32
  let v562 : BitVec 32 := Scalar.remsi v561 c16_i32_443
  let c1_i32_452 : BitVec 32 := 1#32
  let v574 : BitVec 32 := Scalar.muli v562 c1_i32_452
  let v575 : BitVec 32 := Scalar.addi c0_i32_453 v574
  v575.toNat
def k0_dev29 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_466 : BitVec 32 := 1#32
  let v592 : BitVec 32 := Scalar.addi v2 c1_i32_466
  let c12_i32_467 : BitVec 32 := 12#32
  let v593 : BitVec 32 := Scalar.addi v592 c12_i32_467
  let c16_i32_468 : BitVec 32 := 16#32
  let v594 : BitVec 32 := Scalar.remsi v593 c16_i32_468
  let c1_i32_477 : BitVec 32 := 1#32
  let v606 : BitVec 32 := Scalar.muli v594 c1_i32_477
  let v607 : BitVec 32 := Scalar.addi c0_i32_478 v606
  v607.toNat
def k0_dev30 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_491 : BitVec 32 := 1#32
  let v624 : BitVec 32 := Scalar.addi v2 c1_i32_491
  let c13_i32_492 : BitVec 32 := 13#32
  let v625 : BitVec 32 := Scalar.addi v624 c13_i32_492
  let c16_i32_493 : BitVec 32 := 16#32
  let v626 : BitVec 32 := Scalar.remsi v625 c16_i32_493
  let c1_i32_502 : BitVec 32 := 1#32
  let v638 : BitVec 32 := Scalar.muli v626 c1_i32_502
  let v639 : BitVec 32 := Scalar.addi c0_i32_503 v638
  v639.toNat
def k0_dev31 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_516 : BitVec 32 := 1#32
  let v656 : BitVec 32 := Scalar.addi v2 c1_i32_516
  let c14_i32_517 : BitVec 32 := 14#32
  let v657 : BitVec 32 := Scalar.addi v656 c14_i32_517
  let c16_i32_518 : BitVec 32 := 16#32
  let v658 : BitVec 32 := Scalar.remsi v657 c16_i32_518
  let c1_i32_527 : BitVec 32 := 1#32
  let v670 : BitVec 32 := Scalar.muli v658 c1_i32_527
  let v671 : BitVec 32 := Scalar.addi c0_i32_528 v670
  v671.toNat
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v52 : BitVec 32 := Scalar.muli v2 c256_i32
  let v693 : Index := Scalar.indexCast v52
  let c0_545 : Index := 0#32
  ![v693.toNat, 0]
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x4096, .bf16⟩
  | .hbm, ⟨3, _⟩ => ⟨S4096x2048, .bf16⟩
  | .hbm, ⟨4, _⟩ => ⟨S4096x2048, .f32⟩
  | .hbm, ⟨5, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Proto.lean ====
/-
# The protocol: buffers, cells, contents and the schedule

Sixteen devices. Device `c` multiplies its row block of `x` by the sixteen column tiles of `w`, tile `peer c t` at
trip `t`, and ships product `t < 15` to device `peer c t`, whose result rows `256 c … 256 c + 255` it fills; product 15
is the device's own and stays. This module names the pieces of the buffers, the semaphores' cells, what the pieces
hold, and who pays what into which cell at which round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds, and this protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Trips and peers -/

set_option backward.proofsInPublic true in
/-- The device whose tile device `c` computes at trip `t`. -/
def peer (c : Dev nD) (t : ℕ) : Dev nD := ⟨(c.val + t + 1) % 16, Nat.mod_lt _ (by decide)⟩
/-- The trip of device `c` that computes device `j`'s tile. -/
def trip (c j : Dev nD) : ℕ := (j.val + 15 - c.val) % 16

theorem peer_val (c : Dev nD) (t : ℕ) : (peer c t).val = (c.val + t + 1) % 16 := rfl
theorem trip_peer (c : Dev nD) {t : ℕ} (ht : t < 16) : trip c (peer c t) = t := by
  have hc := c.isLt; unfold trip; rw [peer_val]; simp only [nD] at hc; omega
theorem peer_trip (c j : Dev nD) : peer c (trip c j) = j := by
  have hc := c.isLt; have hj := j.isLt; apply Fin.ext; rw [peer_val]; unfold trip; simp only [nD] at hc hj; omega
theorem trip_lt (c j : Dev nD) : trip c j < 16 := Nat.mod_lt _ (by decide)
theorem trip_self (c : Dev nD) : trip c c = 15 := by
  have hc := c.isLt; unfold trip; simp only [nD] at hc; omega
theorem trip_eq_15 {c j : Dev nD} : trip c j = 15 ↔ j = c := by
  constructor
  · intro h; rw [← peer_trip c j, h]; have hc := c.isLt; apply Fin.ext; rw [peer_val]; simp only [nD] at hc; omega
  · rintro rfl; exact trip_self _
theorem trip_ne {c j : Dev nD} {t : ℕ} (h : j ≠ peer c t) : trip c j ≠ t := by
  rintro rfl; exact h (peer_trip c j).symm
theorem peer_15 (c : Dev nD) : peer c 15 = c := by
  have := peer_trip c c; rwa [trip_self] at this
theorem peer_ne {c : Dev nD} {t : ℕ} (ht : t < 15) : peer c t ≠ c := by
  intro h; have := trip_peer c (t := t) (by omega); rw [h, trip_self] at this; omega

/-! ## Buffers and their pieces -/

abbrev xA : Memref sig .tc .hbm S256x4096 .f32 := Memref.whole main_arg0
abbrev wA : Memref sig .tc .hbm S4096x2048 .f32 := Memref.whole main_arg1
abbrev oM : Memref sig .tc .vmem S4096x128 .bf16 := Memref.whole cc0_stg0_0
abbrev xM : Memref sig .tc .vmem S256x4096 .f32 := Memref.whole cc0_scratch0
abbrev wM : Memref sig .tc .vmem S6x4096x128 .f32 := Memref.whole cc0_scratch1
abbrev sM : Memref sig .tc .vmem S16x256x128 .bf16 := Memref.whole cc0_scratch2

theorem blk_inb (j : Fin 16) : ∀ a, (![0, 128 * j.val] : Fin 2 → ℕ) a + S4096x128.size a ≤ S4096x2048.size a := by
  revert j; decide
theorem slot_inb (s : Fin 6) : ∀ a, (![s.val, 0, 0] : Fin 3 → ℕ) a + S1x4096x128.size a ≤ S6x4096x128.size a := by
  revert s; decide
theorem buf_inb (j : Fin 16) : ∀ a, (![j.val, 0, 0] : Fin 3 → ℕ) a + S1x256x128.size a ≤ S16x256x128.size a := by
  revert j; decide
theorem row_inb (j : Fin 16) : ∀ a, (![256 * j.val, 0] : Fin 2 → ℕ) a + S256x128.size a ≤ S4096x128.size a := by
  revert j; decide

/-- Column tile `j` of `w`. -/
abbrev wBlk (j : Fin 16) : Memref sig .tc .hbm S4096x128 .f32 :=
  wA.slice (Rect.unit (s := S4096x2048) ![0, 128 * j.val] S4096x128.size (blk_inb j)) (fun _ => rfl)
/-- Slot `s` of the tile ring. -/
abbrev wSlot (s : Fin 6) : Memref sig .tc .vmem S4096x128 .f32 :=
  (wM.slice (Rect.unit (s := S6x4096x128) ![s.val, 0, 0] S1x4096x128.size (slot_inb s)) (fun _ => rfl)).squeeze S4096x128 squeezes_S1x4096x128_S4096x128
/-- Slot `j` of the send buffer. -/
abbrev sBuf (j : Fin 16) : Memref sig .tc .vmem S256x128 .bf16 :=
  (sM.slice (Rect.unit (s := S16x256x128) ![j.val, 0, 0] S1x256x128.size (buf_inb j)) (fun _ => rfl)).squeeze S256x128 squeezes_S1x256x128_S256x128
/-- Row block `j` of the result. -/
abbrev oRow (j : Fin 16) : Memref sig .tc .vmem S256x128 .bf16 :=
  oM.slice (Rect.unit (s := S4096x128) ![256 * j.val, 0] S256x128.size (row_inb j)) (fun _ => rfl)

def Nx : ℕ := xM.view.dmaCredit
def Nw : ℕ := (wSlot 0).view.dmaCredit
def Np : ℕ := (oRow 0).view.dmaCredit
theorem Nx_pos : 0 < Nx := View.dmaCredit_pos _ (by decide)
theorem Nw_pos : 0 < Nw := View.dmaCredit_pos _ (by decide)
theorem Np_pos : 0 < Np := View.dmaCredit_pos _ (by decide)

/-! ## Cells -/

/-- The protocol's semaphores of one device: barrier, `x`'s load, the tile ring's loads, sends, receives, entries. -/
abbrev Cx : Type := Unit ⊕ Unit ⊕ Fin 6 ⊕ Dev nD ⊕ Dev nD ⊕ Dev nD
instance cxDec : DecidableEq Cx := inferInstance
instance dcxDec : DecidableEq (Dev nD × Cx) := @instDecidableEqProd _ _ inferInstance cxDec
instance cxFin : Fintype Cx := inferInstance
abbrev kBar : Cx := .inl ()
abbrev kX : Cx := .inr (.inl ())
abbrev kLoad (s : Fin 6) : Cx := .inr (.inr (.inl s))
abbrev kSend (j : Dev nD) : Cx := .inr (.inr (.inr (.inl j)))
abbrev kRecv (j : Dev nD) : Cx := .inr (.inr (.inr (.inr (.inl j))))
abbrev kEntry (j : Dev nD) : Cx := .inr (.inr (.inr (.inr (.inr j))))

set_option backward.proofsInPublic true in
/-- The semaphores by name. -/
def barSem : Sem sig := ⟨16, by decide⟩
set_option backward.proofsInPublic true in
def xSem : DmaSem sig := ⟨1, by decide⟩
set_option backward.proofsInPublic true in
def loadSem (s : Fin 6) : DmaSem sig := ⟨2 + s.val, by have := s.isLt; show _ < 40; omega⟩
set_option backward.proofsInPublic true in
def sendSem (j : Dev nD) : DmaSem sig := ⟨8 + j.val, by have := j.isLt; simp only [nD] at this; show _ < 40; omega⟩
set_option backward.proofsInPublic true in
def recvSem (j : Dev nD) : DmaSem sig := ⟨24 + j.val, by have := j.isLt; simp only [nD] at this; show _ < 40; omega⟩
set_option backward.proofsInPublic true in
def entrySem (j : Dev nD) : Sem sig := ⟨j.val, by have := j.isLt; simp only [nD] at this; show _ < 17; omega⟩

/-- Which semaphore each is. -/
def csem : Cx → SemLoc sig
  | .inl () => .reg barSem
  | .inr (.inl ()) => .dma xSem
  | .inr (.inr (.inl s)) => .dma (loadSem s)
  | .inr (.inr (.inr (.inl j))) => .dma (sendSem j)
  | .inr (.inr (.inr (.inr (.inl j)))) => .dma (recvSem j)
  | .inr (.inr (.inr (.inr (.inr j)))) => .reg (entrySem j)

set_option backward.proofsInPublic true in
/-- Which of the protocol's semaphores a semaphore is. -/
def kindOf : SemLoc sig → Option Cx
  | .reg n => if h : n.val < 16 then some (kEntry ⟨n.val, h⟩) else some kBar
  | .dma n =>
    if n.val = 0 then none else if n.val = 1 then some kX
    else if h : n.val < 8 then some (kLoad ⟨n.val - 2, by omega⟩)
    else if h : n.val < 24 then some (kSend ⟨n.val - 8, by simp only [nD]; omega⟩)
    else some (kRecv ⟨n.val - 24, by have := n.isLt; simp only [nD]; change n.val < 40 at this; omega⟩)

theorem kindOf_csem (k : Cx) : kindOf (csem k) = some k := by
  rcases k with ⟨⟩ | ⟨⟩ | s | j | j | j
  · rfl
  · rfl
  · fin_cases s <;> rfl
  · fin_cases j <;> rfl
  · fin_cases j <;> rfl
  · fin_cases j <;> rfl
theorem kindOf_stage : kindOf (.dma ⟨0, by decide⟩) = none := by decide
theorem csem_inj : Function.Injective csem := fun a b h => by
  have := congrArg kindOf h; rw [kindOf_csem, kindOf_csem] at this; exact Option.some.inj this

abbrev cell (c : Dev nD) (k : Cx) : GSem nD τ sig := ((c : Thread nD τ), csem k)

theorem cell_inj {c c' : Dev nD} {k k' : Cx} (h : cell c k = cell c' k') : c = c' ∧ k = k' :=
  ⟨congrArg (fun g : GSem nD τ sig => g.1.1) h, csem_inj (congrArg Prod.snd h)⟩

/-! ## Contents -/

/-- Device `c`'s rows of `x`, its copy of `w`. -/
abbrev xAt (c : Dev nD) : Vec F S256x4096 .f32 := m ((c : Thread nD τ).loc main_arg0)
/-- Tile `j` of device `c`'s copy of `w`, as a slot of the ring holds it. -/
def tileAt (c j : Dev nD) : Vec F S1x4096x128 .f32 :=
  shapeCast S1x4096x128 (show Vec F S4096x128 .f32 from (wBlk j).view.read (Elt F) (m ((c : Thread nD τ).loc main_arg1))) shapeCasts_S1x4096x128_S4096x128.symm
/-- The product of device `c`'s rows with tile `j`: result rows `256 c …` of device `j`. -/
def prodAt (c j : Dev nD) : FVec F S256x128 .bf16 := k0_pay20 (k0_pay1 (xAt m c)) (tileAt m c j)

/-! ## Assertions about the pieces -/

/-- Device `c` holds the piece `M` whole, its buffer's contents `f` there. -/
def holds {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f
instance holds_storable {sp : Space} {s : Shape} {e : EltTy} (c : Dev nD) (M : Memref sig .tc sp s e) (f : Buf (Elt F) (M.view.loc (c : Thread nD τ))) :
    BI.Storable (upEmb : UEmb _ 𝕄) (holds c M f) := by unfold holds; infer_instance

/-- The rectangle a load of slot `s` of the tile ring reads. -/
abbrev slotRect (s : Fin 6) : Rect S6x4096x128 := Rect.unit (s := S6x4096x128) ![s.val, 0, 0] S1x4096x128.size (slot_inb s)

/-- Tile `j` of `w`, in device memory. -/
def blkAt (c j : Dev nD) : sProp 𝕄 := holds c (wBlk j) (m ((c : Thread nD τ).loc main_arg1))
/-- Slot `s` with anything in it; with tile `j` in it. -/
def slotAny (c : Dev nD) (s : Fin 6) : sProp 𝕄 := iprop(∃ f, holds (F := F) c (wSlot s) f)
def slotTile (c : Dev nD) (s : Fin 6) (j : Dev nD) : sProp 𝕄 :=
  iprop(∃ f, ⌜wM.view.readAt (Elt F) (slotRect s).toLoadRect f = tileAt m c j⌝ ∗ holds (F := F) c (wSlot s) f)
/-- Send slot `j` with anything in it; with the product for device `j` in it. -/
def bufAny (c j : Dev nD) : sProp 𝕄 := iprop(∃ f, holds (F := F) c (sBuf j) f)
def bufProd (c j : Dev nD) : sProp 𝕄 :=
  iprop(∃ f, ⌜(sBuf j).view.read (Elt F) f = prodAt m c j⌝ ∗ holds (F := F) c (sBuf j) f)
/-- Row block `j` of device `c`'s result with anything in it; with device `j`'s product in it. -/
def rowAny (c j : Dev nD) : sProp 𝕄 := iprop(∃ f, holds (F := F) c (oRow j) f)
def rowProd (c j : Dev nD) : sProp 𝕄 :=
  iprop(∃ f, ⌜(oRow j).view.read (Elt F) f = prodAt m j c⌝ ∗ holds (F := F) c (oRow j) f)

/-! ## The schedule -/

/-- Which rounds of a cell of device `c` have a (single) duty: a slot of the tile ring one round per tile it takes; the
    barrier and `x`'s load round 0; a send, receive or entry cell round 0, and only towards another device. -/
def active (c : Dev nD) : Cx → ℕ → Prop
  | .inl _, r => r = 0
  | .inr (.inl _), r => r = 0
  | .inr (.inr (.inl s)), r => s.val + 6 * r < 16
  | .inr (.inr (.inr (.inl j))), r => r = 0 ∧ j ≠ c
  | .inr (.inr (.inr (.inr (.inl j)))), r => r = 0 ∧ j ≠ c
  | .inr (.inr (.inr (.inr (.inr j)))), r => r = 0 ∧ j ≠ c
instance active_dec (c : Dev nD) (k : Cx) (r : ℕ) : Decidable (active c k r) := by
  rcases k with _ | _ | _ | _ | _ | _ <;> (unfold active; infer_instance)

/-- The units a duty lands: one on a regular semaphore, its transfer's credit on a DMA semaphore. -/
def units : Cx → ℕ
  | .inl _ => 1
  | .inr (.inl _) => Nx
  | .inr (.inr (.inl _)) => Nw
  | .inr (.inr (.inr (.inl _))) => Np
  | .inr (.inr (.inr (.inr (.inl _)))) => Np
  | .inr (.inr (.inr (.inr (.inr _)))) => 1
theorem units_pos : (k : Cx) → 0 < units k
  | .inl _ => Nat.one_pos
  | .inr (.inl _) => Nx_pos
  | .inr (.inr (.inl _)) => Nw_pos
  | .inr (.inr (.inr (.inl _))) => Np_pos
  | .inr (.inr (.inr (.inr (.inl _)))) => Np_pos
  | .inr (.inr (.inr (.inr (.inr _)))) => Nat.one_pos

/-- What device `c` takes from a cell's round: from `x`'s load, `x` on both sides; from a tile's load, the tile on both
    sides; from a send, the send slot; from a receive, the filled row block; from device `j`'s entry signal, the row
    block of device `j` that `c` is to fill. -/
def pay (c : Dev nD) : Cx → ℕ → sProp 𝕄
  | .inl _, _ => iprop(emp)
  | .inr (.inl _), _ => iprop(holds c xM (xAt m c) ∗ holds c xA (xAt m c))
  | .inr (.inr (.inl s)), r => iprop(slotTile m c s (peer c (s.val + 6 * r)) ∗ blkAt m c (peer c (s.val + 6 * r)))
  | .inr (.inr (.inr (.inl j))), _ => bufAny c j
  | .inr (.inr (.inr (.inr (.inl j)))), _ => rowProd m c j
  | .inr (.inr (.inr (.inr (.inr j)))), _ => rowAny j c
instance pay_storable (c : Dev nD) (k : Cx) (r : ℕ) : BI.Storable (upEmb : UEmb _ 𝕄) (pay m c k r) := by
  rcases k with _ | _ | _ | _ | _ | _ <;> (unfold pay slotTile blkAt bufAny rowProd rowAny; infer_instance) <;> skip

/-- The schedule: the tables above at the protocol's cells, nothing elsewhere. -/
def Rd : Rounds.Schedule (GSem nD τ sig) Unit 𝕄 where
  duties g r := match kindOf g.2 with
    | some k => if g.1.2 = .tc ∧ active g.1.1 k r then {()} else ∅
    | none => ∅
  unitless _ := False
  amount g _ _ := match kindOf g.2 with
    | some k => units k
    | none => 1
  payload g r _ := match kindOf g.2 with
    | some k => pay m g.1.1 k r
    | none => iprop(emp)
  amount_pos g _ _ _ := by
    cases kindOf g.2 with
    | none => exact Nat.one_pos
    | some k => exact units_pos k

instance Rd_storable (g : GSem nD τ sig) (r : ℕ) (d : Unit) : BI.Storable (upEmb : UEmb _ 𝕄) ((Rd (F := F) m).payload g r d) := by
  show BI.Storable upEmb (match kindOf g.2 with | some k => pay m g.1.1 k r | none => iprop(emp))
  cases kindOf g.2 with
  | none => infer_instance
  | some k => exact pay_storable m _ k r

section Tables
variable (c : Dev nD) (k : Cx) (r : ℕ)

theorem duties_of (h : active c k r) : (Rd (F := F) m).duties (cell c k) r = {()} := by
  dsimp only [Rd]; rw [kindOf_csem]; exact if_pos ⟨rfl, h⟩
theorem duties_none (h : ¬ active c k r) : (Rd (F := F) m).duties (cell c k) r = ∅ := by
  dsimp only [Rd]; rw [kindOf_csem]; exact if_neg fun h' => h h'.2
theorem mem_duties (h : active c k r) : () ∈ (Rd (F := F) m).duties (cell c k) r := by
  rw [duties_of m c k r h]; exact Finset.mem_singleton_self _
theorem amount_eq (d : Unit) : (Rd (F := F) m).amount (cell c k) r d = units k := by
  dsimp only [Rd]; rw [kindOf_csem]
theorem expect_eq (h : active c k r) : (Rd (F := F) m).expect (cell c k) r = units k := by
  unfold Schedule.expect Schedule.amountOf; rw [duties_of m c k r h, Finset.sum_singleton, amount_eq]
theorem payload_eq (d : Unit) : (Rd (F := F) m).payload (cell c k) r d = pay m c k r := by
  dsimp only [Rd]; rw [kindOf_csem]
theorem rest_eq (h : active c k r) :
    bigSep ((Rd (F := F) m).duties (cell c k) r \ ∅) (fun d => (Rd (F := F) m).payload (cell c k) r d) = pay m c k r := by
  rw [Finset.sdiff_empty, duties_of m c k r h, bigSep_singleton, payload_eq]
end Tables

/-! ## What each device owes at launch; the levels -/

/-- Device `c` owes every other device an entry signal and a filled row block. -/
def owed (c : Dev nD) (se sr : Dev nD → Prop) [DecidablePred se] [DecidablePred sr] : CellTallies nD τ sig Unit :=
  (∑ n, if n ≠ c ∧ se n then tallyAt (cell n (kEntry c)) () 1 else 0) + ∑ n, if n ≠ c ∧ sr n then tallyAt (cell n (kRecv c)) () Np else 0
def O₀ (c : Dev nD) : CellTallies nD τ sig Unit := owed c (fun _ => True) (fun _ => True)

def L (g : GSem nD τ sig) : Finset Unit := if g.1.2 = .tc then {()} else ∅
/-- Receives at 2, entries at 1, everything else at 0. -/
def lvK : Cx → ℕ
  | .inr (.inr (.inr (.inr (.inl _)))) => 2
  | .inr (.inr (.inr (.inr (.inr _)))) => 1
  | _ => 0
def lv (g : GSem nD τ sig) (_ : Unit) : ℕ := match kindOf g.2 with
  | some k => lvK k
  | none => 0

theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : Cx) (u : Unit) : lv (cell c k) u = lvK k := by
  unfold lv; rw [kindOf_csem]

/-- A debt is to another device's entry cell not yet signalled, or receive cell not yet filled. -/
theorem owed_pos {c : Dev nD} {se sr : Dev nD → Prop} [DecidablePred se] [DecidablePred sr] {g : GSem nD τ sig} {u : Unit}
    (h : 0 < owed c se sr g u) : (∃ n, se n ∧ g = cell n (kEntry c)) ∨ ∃ n, sr n ∧ g = cell n (kRecv c) := by
  unfold owed at h
  by_contra hn
  rw [not_or] at hn
  refine absurd h (Nat.not_lt.2 (le_of_eq ?_))
  rw [Pi.add_apply, Finsupp.add_apply, Finset.sum_apply, Finset.sum_apply, Finsupp.finset_sum_apply, Finsupp.finset_sum_apply,
    Finset.sum_eq_zero, Finset.sum_eq_zero, Nat.add_zero]
  · intro n _
    split
    · next hs => rw [tallyAt_apply, if_neg fun h' => hn.2 ⟨n, hs.2, h'.1⟩]
    · rfl
  · intro n _
    split
    · next hs => rw [tallyAt_apply, if_neg fun h' => hn.1 ⟨n, hs.2, h'.1⟩]
    · rfl

/-- A device may wait on a semaphore below all it owes. -/
theorem mayWait (c : Dev nD) (sm : SemLoc sig) (se sr : Dev nD → Prop) [DecidablePred se] [DecidablePred sr]
    (h1 : (∃ n, se n) → lv ((c : Thread nD τ), sm) () < 1) (h2 : lv ((c : Thread nD τ), sm) () < 2) :
    (levAts L lv : sProp 𝕄) ⊢ MayWait (c : Thread nD τ) sm () (owed c se sr) :=
  MayOwe.of_cut (L := L) (lev := lv) (lv ((c : Thread nD τ), sm) ())
    (fun p hp => by rw [Finset.mem_singleton.mp hp, L_tc]; exact Finset.mem_singleton_self _)
    (fun g u hg => by rcases owed_pos hg with ⟨n, _, rfl⟩ | ⟨n, _, rfl⟩ <;> exact Finset.mem_singleton_self _)
    (fun p hp => by rw [Finset.mem_singleton.mp hp])
    (fun g u hg => by
      rcases owed_pos hg with ⟨n, hs, rfl⟩ | ⟨n, _, rfl⟩
      · rw [lv_cell]; exact h1 ⟨n, hs⟩
      · rw [lv_cell]; exact h2)

end Cert.A2A

end
-- ==== Proof.Mem.lean ====
/-
# The pieces of the buffers: how they tile, and what a load, a store and a landing leave in them
-/
module

public import proofs.«01_k».proof.Proof.Proto
public import Idealize.ShloMosaic.Lib.Ring
public import Idealize.ShloMosaic.Lib.Pipeline.Value
public import Idealize.ShloMosaic.Lib.Pipeline.ValueKit
public import Idealize.ShloMosaic.Lib.ViewIndex

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which elements each piece has -/

theorem mem_wBlk (j : Fin 16) (i : S4096x2048.Idx) : i ∈ (wBlk j).view.set ↔ (i 1).val / 128 = j.val := by
  refine ValueKit.mem_set_slice_whole_iff main_arg1 _ i ?_
  rw [Rect.mem_set_unit]
  have h0 : (i 0).val < 4096 := (i 0).isLt
  constructor
  · intro h; replace h := h 1; change 128 * j.val ≤ (i 1).val ∧ (i 1).val < 128 * j.val + 128 at h; omega
  · intro h; refine Fin.forall_fin_two.mpr ⟨⟨Nat.zero_le _, ?_⟩, ?_, ?_⟩
    · show (i 0).val < 0 + 4096; omega
    · show 128 * j.val ≤ (i 1).val; omega
    · show (i 1).val < 128 * j.val + 128; omega

theorem mem_oRow (j : Fin 16) (i : S4096x128.Idx) : i ∈ (oRow j).view.set ↔ (i 0).val / 256 = j.val := by
  refine ValueKit.mem_set_slice_whole_iff cc0_stg0_0 _ i ?_
  rw [Rect.mem_set_unit]
  have h1 : (i 1).val < 128 := (i 1).isLt
  constructor
  · intro h; replace h := h 0; change 256 * j.val ≤ (i 0).val ∧ (i 0).val < 256 * j.val + 256 at h; omega
  · intro h; refine Fin.forall_fin_two.mpr ⟨⟨?_, ?_⟩, Nat.zero_le _, ?_⟩
    · show 256 * j.val ≤ (i 0).val; omega
    · show (i 0).val < 256 * j.val + 256; omega
    · show (i 1).val < 0 + 128; omega

theorem set_wSlot (s : Fin 6) : (wSlot s).view.set = (wM.access (slotRect s)).set := View.set_reshape _ _
theorem set_sBuf (j : Fin 16) :
    (sBuf j).view.set = (sM.access (Rect.unit (s := S16x256x128) ![j.val, 0, 0] S1x256x128.size (buf_inb j))).set := View.set_reshape _ _

theorem mem_wSlot (s : Fin 6) (i : S6x4096x128.Idx) : i ∈ (wSlot s).view.set ↔ (i 0).val = s.val := by
  rw [set_wSlot]
  refine ValueKit.mem_set_slice_whole_iff cc0_scratch1 _ i ?_
  rw [Rect.mem_set_unit]
  have h1 : (i 1).val < 4096 := (i 1).isLt
  have h2 : (i 2).val < 128 := (i 2).isLt
  constructor
  · intro h; replace h := h 0; change s.val ≤ (i 0).val ∧ (i 0).val < s.val + 1 at h; omega
  · intro h; refine Fin.forall_fin_succ.mpr ⟨⟨?_, ?_⟩, Fin.forall_fin_two.mpr ⟨⟨Nat.zero_le _, ?_⟩, Nat.zero_le _, ?_⟩⟩
    · show s.val ≤ (i 0).val; omega
    · show (i 0).val < s.val + 1; omega
    · show (i 1).val < 0 + 4096; omega
    · show (i 2).val < 0 + 128; omega

theorem mem_sBuf (j : Fin 16) (i : S16x256x128.Idx) : i ∈ (sBuf j).view.set ↔ (i 0).val = j.val := by
  rw [set_sBuf]
  refine ValueKit.mem_set_slice_whole_iff cc0_scratch2 _ i ?_
  rw [Rect.mem_set_unit]
  have h1 : (i 1).val < 256 := (i 1).isLt
  have h2 : (i 2).val < 128 := (i 2).isLt
  constructor
  · intro h; replace h := h 0; change j.val ≤ (i 0).val ∧ (i 0).val < j.val + 1 at h; omega
  · intro h; refine Fin.forall_fin_succ.mpr ⟨⟨?_, ?_⟩, Fin.forall_fin_two.mpr ⟨⟨Nat.zero_le _, ?_⟩, Nat.zero_le _, ?_⟩⟩
    · show j.val ≤ (i 0).val; omega
    · show (i 0).val < j.val + 1; omega
    · show (i 1).val < 0 + 256; omega
    · show (i 2).val < 0 + 128; omega

/-- Sets told apart by a number are disjoint, and cover if every element's number is one of theirs. -/
theorem disjoint_of_key {T : Type} [DecidableEq T] {n : ℕ} (K : Fin n → Finset T) (key : T → ℕ) (h : ∀ b i, i ∈ K b ↔ key i = b.val)
    (b b' : Fin n) (hb : b ≠ b') : Disjoint (K b) (K b') :=
  Finset.disjoint_left.mpr fun i h1 h2 => hb (Fin.ext (((h b i).mp h1).symm.trans ((h b' i).mp h2)))
theorem cover_of_key {T : Type} [Fintype T] [DecidableEq T] {n : ℕ} (K : Fin n → Finset T) (key : T → ℕ) (h : ∀ b i, i ∈ K b ↔ key i = b.val)
    (hk : ∀ i, key i < n) : Finset.univ.biUnion K = Finset.univ :=
  Finset.eq_univ_iff_forall.mpr fun i => Finset.mem_biUnion.mpr ⟨⟨key i, hk i⟩, Finset.mem_univ _, (h _ i).mpr rfl⟩

/-! ## A buffer whole is its pieces -/

/-- Conjunctions over the same finite type compare summand by summand. -/
theorem bmono {I : Type} [Fintype I] {Φ Ψ : I → sProp 𝕄} (h : ∀ i, Φ i ⊢ Ψ i) : bigSep Finset.univ Φ ⊢ bigSep Finset.univ Ψ :=
  bigSep_mono fun i _ => h i

/-- `w` in device memory is its sixteen tiles. -/
theorem w_split (c : Dev nD) :
    (((c : Thread nD τ).loc main_arg1) ↦{fullShare} m ((c : Thread nD τ).loc main_arg1) : sProp 𝕄) = bigSep Finset.univ fun j => blkAt m c j :=
  Ring.pointsTo_blocks (ℓ := (c : Thread nD τ).loc main_arg1) (fun j : Fin 16 => (wBlk j).view.set)
    (disjoint_of_key _ (fun i : S4096x2048.Idx => (i 1).val / 128) mem_wBlk)
    (cover_of_key _ (fun i : S4096x2048.Idx => (i 1).val / 128) mem_wBlk fun i => by have h : (i 1).val < 2048 := (i 1).isLt; omega) _

/-- The tile ring is its slots, the send buffer its slots, the result its row blocks. -/
theorem ring_split (c : Dev nD) (f) : (((c : Thread nD τ).loc cc0_scratch1) ↦{fullShare} f : sProp 𝕄) ⊢ bigSep Finset.univ fun s => slotAny c s := by
  refine (BIBase.Entails.of_eq (Ring.pointsTo_blocks (ℓ := (c : Thread nD τ).loc cc0_scratch1) (fun j : Fin 6 => (wSlot j).view.set)
    (disjoint_of_key _ (fun i : S6x4096x128.Idx => (i 0).val) mem_wSlot)
    (cover_of_key _ (fun i : S6x4096x128.Idx => (i 0).val) mem_wSlot fun i => (i 0).isLt) f)).trans ?_
  refine bmono fun s => ?_
  unfold slotAny holds; iintro H; iexists f; iexact H
theorem ring_join (c : Dev nD) : (bigSep Finset.univ fun s => slotAny (F := F) c s) ⊢ (iprop(∃ f, ((c : Thread nD τ).loc cc0_scratch1) ↦{fullShare} f) : sProp 𝕄) :=
  Ring.pointsTo_blocks_join_exists (ℓ := (c : Thread nD τ).loc cc0_scratch1) (fun j : Fin 6 => (wSlot j).view.set)
    (disjoint_of_key _ (fun i : S6x4096x128.Idx => (i 0).val) mem_wSlot)
    (cover_of_key _ (fun i : S6x4096x128.Idx => (i 0).val) mem_wSlot fun i => (i 0).isLt) (fun _ => Classical.arbitrary _)
theorem buf_split (c : Dev nD) (f) : (((c : Thread nD τ).loc cc0_scratch2) ↦{fullShare} f : sProp 𝕄) ⊢ bigSep Finset.univ fun j => bufAny c j := by
  refine (BIBase.Entails.of_eq (Ring.pointsTo_blocks (ℓ := (c : Thread nD τ).loc cc0_scratch2) (fun j : Fin 16 => (sBuf j).view.set)
    (disjoint_of_key _ (fun i : S16x256x128.Idx => (i 0).val) mem_sBuf)
    (cover_of_key _ (fun i : S16x256x128.Idx => (i 0).val) mem_sBuf fun i => (i 0).isLt) f)).trans ?_
  refine bmono fun s => ?_
  unfold bufAny holds; iintro H; iexists f; iexact H
theorem buf_join (c : Dev nD) : (bigSep Finset.univ fun j => bufAny (F := F) c j) ⊢ (iprop(∃ f, ((c : Thread nD τ).loc cc0_scratch2) ↦{fullShare} f) : sProp 𝕄) :=
  Ring.pointsTo_blocks_join_exists (ℓ := (c : Thread nD τ).loc cc0_scratch2) (fun j : Fin 16 => (sBuf j).view.set)
    (disjoint_of_key _ (fun i : S16x256x128.Idx => (i 0).val) mem_sBuf)
    (cover_of_key _ (fun i : S16x256x128.Idx => (i 0).val) mem_sBuf fun i => (i 0).isLt) (fun _ => Classical.arbitrary _)
theorem out_split (c : Dev nD) (f) : (((c : Thread nD τ).loc cc0_stg0_0) ↦{fullShare} f : sProp 𝕄) ⊢ bigSep Finset.univ fun j => rowAny c j := by
  refine (BIBase.Entails.of_eq (Ring.pointsTo_blocks (ℓ := (c : Thread nD τ).loc cc0_stg0_0) (fun j : Fin 16 => (oRow j).view.set)
    (disjoint_of_key _ (fun i : S4096x128.Idx => (i 0).val / 256) mem_oRow)
    (cover_of_key _ (fun i : S4096x128.Idx => (i 0).val / 256) mem_oRow fun i => by have h : (i 0).val < 4096 := (i 0).isLt; omega) f)).trans ?_
  refine bmono fun s => ?_
  unfold rowAny holds; iintro H; iexists f; iexact H

set_option backward.proofsInPublic true in
/-- The result on device `c`: row `256 j + r` is row `r` of device `j`'s product for `c`. -/
def outAt (c : Dev nD) : S4096x128.Idx → Elt F .bf16 := fun i =>
  prodAt m ⟨(i 0).val / 256, by have h : (i 0).val < 4096 := (i 0).isLt; show _ < 16; omega⟩ c
    (fun | ⟨0, _⟩ => ⟨(i 0).val % 256, Nat.mod_lt _ (by decide)⟩ | ⟨1, _⟩ => ⟨(i 1).val, (i 1).isLt⟩)

theorem read_outAt (c : Dev nD) (j : Fin 16) : (oRow j).view.read (Elt F) (outAt m c) = prodAt m j c := by
  funext x
  show outAt m c ((oRow j).view.emb x) = _
  have e0 : ((oRow j).view.emb x 0).val = 256 * j.val + (x 0).val := ValueKit.view_emb_slice_whole_unit_val cc0_stg0_0 _ _ (row_inb j) x 0
  have e1 : ((oRow j).view.emb x 1).val = 0 + (x 1).val := ValueKit.view_emb_slice_whole_unit_val cc0_stg0_0 _ _ (row_inb j) x 1
  have h0 : (x 0).val < 256 := (x 0).isLt
  have ej : (⟨((oRow j).view.emb x 0).val / 256, by rw [e0]; have := j.isLt; show _ < 16; omega⟩ : Dev nD) = j := Fin.ext (by show _ / 256 = j.val; rw [e0]; omega)
  unfold outAt
  rw [ej]
  refine congrArg _ (funext fun a => Fin.ext ?_)
  match a with
  | ⟨0, _⟩ => show ((oRow j).view.emb x 0).val % 256 = (x 0).val; rw [e0]; omega
  | ⟨1, _⟩ => show ((oRow j).view.emb x 1).val = (x 1).val; rw [e1]; omega

/-- The filled row blocks are the result, whole. -/
theorem out_join (c : Dev nD) : (bigSep Finset.univ fun j => rowProd m c j) ⊢ (((c : Thread nD τ).loc cc0_stg0_0) ↦{fullShare} outAt m c : sProp 𝕄) := by
  refine BIBase.Entails.trans (bmono fun j => ?_) (BIBase.Entails.of_eq (Ring.pointsTo_blocks (ℓ := (c : Thread nD τ).loc cc0_stg0_0) (fun j : Fin 16 => (oRow j).view.set)
    (disjoint_of_key _ (fun i : S4096x128.Idx => (i 0).val / 256) mem_oRow)
    (cover_of_key _ (fun i : S4096x128.Idx => (i 0).val / 256) mem_oRow fun i => by have h : (i 0).val < 4096 := (i 0).isLt; omega) (outAt m c)).symm)
  unfold rowProd holds
  iintro ⟨%f, %hf, H⟩
  have e : ∀ i ∈ (oRow j).view.set, f i = outAt m c i := fun i hi => by
    obtain ⟨x, rfl⟩ := View.exists_of_mem_set_slice (v := View.whole cc0_stg0_0) hi
    exact congrFun (hf.trans (read_outAt m c j).symm) x
  rw [← pointsTo_congr (ℓ := (c : Thread nD τ).loc cc0_stg0_0) e]
  iexact H

/-! ## Loads, stores, landings -/

/-- What a load of slot `s` reads is what the slot reads, with a unit axis put in front. -/
theorem readAt_slot (s : Fin 6) (f : S6x4096x128.Idx → Elt F .f32) :
    wM.view.readAt (Elt F) (slotRect s).toLoadRect f
      = shapeCast S1x4096x128 (show Vec F S4096x128 .f32 from (wSlot s).view.read (Elt F) f) shapeCasts_S1x4096x128_S4096x128.symm := by
  have h : (wSlot s).view.read (Elt F) f = shapeCast S4096x128 (wM.view.readAt (Elt F) (slotRect s).toLoadRect f) shapeCasts_S1x4096x128_S4096x128 := rfl
  rw [h]
  funext x
  show _ = wM.view.readAt (Elt F) (slotRect s).toLoadRect f (Shape.reshapeEquiv _ (Shape.reshapeEquiv _ x))
  rw [Shape.reshapeEquiv_reshapeEquiv, Shape.reshapeEquiv_self]

/-- After tile `j` landed in slot `s`, a load of the slot reads the tile. -/
theorem landed_tile (c : Dev nD) (s : Fin 6) (j : Dev nD) (f : S6x4096x128.Idx → Elt F .f32) :
    wM.view.readAt (Elt F) (slotRect s).toLoadRect
      ((wSlot s).view.write (Elt F) f ((wBlk j).view.read (Elt F) (m ((c : Thread nD τ).loc main_arg1))) Finset.univ) = tileAt m c j := by
  rw [readAt_slot, View.read_write_univ]; rfl

/-- After `v`, with a unit axis in front, is stored in send slot `j`, the slot reads `v`. -/
theorem stored_buf (j : Fin 16) (f : S16x256x128.Idx → Elt F .bf16) (v : FVec F S256x128 .bf16) :
    (sBuf j).view.read (Elt F) ((sM.access (Rect.unit (s := S16x256x128) ![j.val, 0, 0] S1x256x128.size (buf_inb j))).write (Elt F) f
      (shapeCast S1x256x128 v shapeCasts_S256x128_S1x256x128) Finset.univ) = v := by
  have h : ∀ g, (sBuf j).view.read (Elt F) g = shapeCast S256x128 ((sM.access (Rect.unit (s := S16x256x128) ![j.val, 0, 0] S1x256x128.size (buf_inb j))).read (Elt F) g)
      shapeCasts_S256x128_S1x256x128.symm := fun g => rfl
  rw [h, View.read_write_univ]
  funext x
  show v (Shape.reshapeEquiv _ (Shape.reshapeEquiv _ x)) = v x
  rw [Shape.reshapeEquiv_reshapeEquiv, Shape.reshapeEquiv_self]

/-- After a store to row block `j`, the block reads what was stored. -/
theorem stored_row (j : Fin 16) (f : S4096x128.Idx → Elt F .bf16) (v : FVec F S256x128 .bf16) :
    (oRow j).view.read (Elt F) ((oRow j).view.write (Elt F) f v Finset.univ) = v := View.read_write_univ _ _

end Cert.A2A
end
-- ==== Proof.State.lean ====
/-
# What a device holds as its body runs

`St p` is everything device `c` holds when its body has made the progress `p`. It is a conjunction of families over
devices, tiles and slots; each member's status is read off `p`.
-/
module

public import proofs.«01_k».proof.Proof.Mem

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The facts every device shares -/

/-- Every cell's invariant, under the names `K`, and that every cell has reached round 0. -/
def records (K : Dev nD × Cx → ℕ) : sProp 𝕄 :=
  bigSep Finset.univ fun dk : Dev nD × Cx => iprop(cellInv ER (Rd m) (K dk) (cell dk.1 dk.2) ∗ reached ER (cell dk.1 dk.2) 0)
instance records_persistent (K : Dev nD × Cx → ℕ) : BI.Persistent (records m K) := by unfold records; infer_instance

theorem records_at (K : Dev nD × Cx → ℕ) (d : Dev nD) (k : Cx) :
    records m K ⊢ iprop(cellInv ER (Rd m) (K (d, k)) (cell d k) ∗ reached ER (cell d k) 0) := by
  unfold records; exact bigSep_elim (i := (d, k)) (Finset.mem_univ _)

/-! ## Progress -/

/-- How far a device's body is: the self-signalled barrier (0 not begun, 1 signalled, 2 waited); the devices its entry
    signals are done for; `x`'s load (0 not begun, 1 issued, 2 there); the tile loads issued, and taken; the trips' steps
    done, three each: product stored, entry waited, sent; its own row block stored; the devices whose product is
    received; the sends waited for. -/
structure Prog' where
  bar : ℕ
  sg : ℕ
  xs : ℕ
  li : ℕ
  lw : ℕ
  tr : ℕ
  ow : ℕ
  rv : ℕ
  sw : ℕ

section Families
variable (c : Dev nD)

def barSt (b : ℕ) : sProp 𝕄 :=
  if b = 0 then iprop(atPos ER (cell c kBar) 0 ∅ 0 ∗ dutyTok ER (cell c kBar) 0 ())
  else if b = 1 then iprop(atPos ER (cell c kBar) 0 ∅ 0 ∗ cred (tallyAt (cell c kBar) () 1))
  else atPos ER (cell c kBar) 1 ∅ 0

/-- Row block `n` of the device's result, with what it takes to hand it to device `n` and get it back. -/
def rowSt (sg ow rv : ℕ) (n : Dev nD) : sProp 𝕄 :=
  if n = c then iprop(atPos ER (cell c (kRecv n)) 0 ∅ 0 ∗ if ow = 0 then rowAny c c else rowProd m c c)
  else if n.val < rv then iprop(atPos ER (cell c (kRecv n)) 1 ∅ 0 ∗ rowProd m c n)
  else iprop(atPos ER (cell c (kRecv n)) 0 ∅ 0 ∗ cred (tallyAt (cell c (kRecv n)) () Np)
    ∗ if n.val < sg then iprop(emp) else iprop(rowAny c n ∗ dutyTok ER (cell n (kEntry c)) 0 ()))

def xSt (x : ℕ) : sProp 𝕄 :=
  if x = 0 then iprop(atPos ER (cell c kX) 0 ∅ 0 ∗ dutyTok ER (cell c kX) 0 () ∗ holds c xA (xAt m c) ∗ ∃ f, holds (F := F) c xM f)
  else if x = 1 then iprop(atPos ER (cell c kX) 0 ∅ 0 ∗ cred (tallyAt (cell c kX) () Nx))
  else iprop(atPos ER (cell c kX) 1 ∅ 0 ∗ holds c xM (xAt m c) ∗ holds c xA (xAt m c))

/-- The slot a tile goes to. -/
def slotOf (t : ℕ) : Fin 6 := ⟨t % 6, Nat.mod_lt _ (by decide)⟩

/-- Tile `j` of `w`: not yet requested, in flight, back. -/
def tileSt (li lw : ℕ) (j : Dev nD) : sProp 𝕄 :=
  if trip c j < lw then blkAt m c j
  else if trip c j < li then cred (tallyAt (cell c (kLoad (slotOf (trip c j)))) () Nw)
  else iprop(blkAt m c j ∗ dutyTok ER (cell c (kLoad (slotOf (trip c j)))) (trip c j / 6) ())

/-- Slot `s` of the ring, `ri` tiles requested into it and `rw` of them taken: with nothing in flight, it holds the last
    tile taken. -/
def slotSt (ri rw : ℕ) (s : Fin 6) : sProp 𝕄 :=
  iprop(atPos ER (cell c (kLoad s)) rw ∅ 0 ∗ reached ER (cell c (kLoad s)) rw
    ∗ if ri = rw then (if rw = 0 then slotAny c s else slotTile m c s (peer c (s.val + 6 * (rw - 1)))) else iprop(emp))

/-- How many of the first `n` tiles go to slot `s`. -/
def cnt (n : ℕ) (s : Fin 6) : ℕ := (n + 5 - s.val) / 6

/-- The trip for device `j`, at stage 0 untouched, 1 product stored, 2 device `j`'s row block there, 3 sent, 4 send
    waited for. The trip for the device itself stays at 0. -/
def tripAt (j : Dev nD) (stage : ℕ) : sProp 𝕄 :=
  if j = c then iprop(bufAny c j ∗ atPos ER (cell c (kEntry j)) 0 ∅ 0 ∗ atPos ER (cell c (kSend j)) 0 ∅ 0)
  else if stage = 0 then iprop(bufAny c j ∗ (atPos ER (cell c (kEntry j)) 0 ∅ 0 ∗ cred (tallyAt (cell c (kEntry j)) () 1))
    ∗ atPos ER (cell c (kSend j)) 0 ∅ 0 ∗ dutyTok ER (cell c (kSend j)) 0 () ∗ dutyTok ER (cell j (kRecv c)) 0 ())
  else if stage = 1 then iprop(bufProd m c j ∗ (atPos ER (cell c (kEntry j)) 0 ∅ 0 ∗ cred (tallyAt (cell c (kEntry j)) () 1))
    ∗ atPos ER (cell c (kSend j)) 0 ∅ 0 ∗ dutyTok ER (cell c (kSend j)) 0 () ∗ dutyTok ER (cell j (kRecv c)) 0 ())
  else if stage = 2 then iprop(bufProd m c j ∗ (atPos ER (cell c (kEntry j)) 1 ∅ 0 ∗ rowAny j c)
    ∗ atPos ER (cell c (kSend j)) 0 ∅ 0 ∗ dutyTok ER (cell c (kSend j)) 0 () ∗ dutyTok ER (cell j (kRecv c)) 0 ())
  else if stage = 3 then iprop(atPos ER (cell c (kEntry j)) 1 ∅ 0 ∗ atPos ER (cell c (kSend j)) 0 ∅ 0 ∗ cred (tallyAt (cell c (kSend j)) () Np))
  else iprop(bufAny c j ∗ atPos ER (cell c (kEntry j)) 1 ∅ 0 ∗ atPos ER (cell c (kSend j)) 1 ∅ 0)

/-- The stage of trip `t` after `tr` steps and `sw` waits. -/
def stage (tr sw t : ℕ) : ℕ := if t < sw then 4 else min 3 (tr - 3 * t)
def tripSt (tr sw : ℕ) (j : Dev nD) : sProp 𝕄 := tripAt m c j (stage tr sw (trip c j))

/-- What the device still owes: entry signals from `sg` on, row blocks of the trips not yet sent. -/
def debt (sg tr : ℕ) : CellTallies nD τ sig Unit := owed c (fun n => sg ≤ n.val) (fun n => tr < 3 * trip c n + 3)

/-! The members at each status. -/

theorem barSt_0 : barSt (F := F) c 0 = iprop(atPos ER (cell c kBar) 0 ∅ 0 ∗ dutyTok ER (cell c kBar) 0 ()) := if_pos rfl
theorem barSt_1 : barSt (F := F) c 1 = iprop(atPos ER (cell c kBar) 0 ∅ 0 ∗ cred (tallyAt (cell c kBar) () 1)) := rfl
theorem barSt_2 : barSt (F := F) c 2 = atPos ER (cell c kBar) 1 ∅ 0 := rfl

theorem xSt_0 : xSt m c 0 = iprop(atPos ER (cell c kX) 0 ∅ 0 ∗ dutyTok ER (cell c kX) 0 () ∗ holds c xA (xAt m c) ∗ ∃ f, holds (F := F) c xM f) := rfl
theorem xSt_1 : xSt m c 1 = iprop(atPos ER (cell c kX) 0 ∅ 0 ∗ cred (tallyAt (cell c kX) () Nx)) := rfl
theorem xSt_2 : xSt m c 2 = iprop(atPos ER (cell c kX) 1 ∅ 0 ∗ holds c xM (xAt m c) ∗ holds c xA (xAt m c)) := rfl

theorem rowSt_own0 (sg rv : ℕ) : rowSt m c sg 0 rv c = iprop(atPos ER (cell c (kRecv c)) 0 ∅ 0 ∗ rowAny c c) := by
  unfold rowSt; rw [if_pos rfl, if_pos rfl]
theorem rowSt_own1 (sg rv : ℕ) : rowSt m c sg 1 rv c = iprop(atPos ER (cell c (kRecv c)) 0 ∅ 0 ∗ rowProd m c c) := by
  unfold rowSt; rw [if_pos rfl, if_neg Nat.one_ne_zero]
theorem rowSt_pre (sg ow : ℕ) (n : Dev nD) (hn : n ≠ c) (h : ¬ n.val < sg) :
    rowSt m c sg ow 0 n = iprop(atPos ER (cell c (kRecv n)) 0 ∅ 0 ∗ cred (tallyAt (cell c (kRecv n)) () Np) ∗ rowAny c n ∗ dutyTok ER (cell n (kEntry c)) 0 ()) := by
  unfold rowSt; rw [if_neg hn, if_neg (Nat.not_lt_zero _), if_neg h]
theorem rowSt_lent (sg ow rv : ℕ) (n : Dev nD) (hn : n ≠ c) (h : n.val < sg) (hr : ¬ n.val < rv) :
    rowSt m c sg ow rv n = iprop(atPos ER (cell c (kRecv n)) 0 ∅ 0 ∗ cred (tallyAt (cell c (kRecv n)) () Np) ∗ emp) := by
  unfold rowSt; rw [if_neg hn, if_neg hr, if_pos h]
theorem rowSt_back (sg ow rv : ℕ) (n : Dev nD) (hn : n ≠ c) (hr : n.val < rv) :
    rowSt m c sg ow rv n = iprop(atPos ER (cell c (kRecv n)) 1 ∅ 0 ∗ rowProd m c n) := by
  unfold rowSt; rw [if_neg hn, if_pos hr]

theorem tileSt_pre (li lw : ℕ) (j : Dev nD) (h1 : lw ≤ li) (h : li ≤ trip c j) :
    tileSt m c li lw j = iprop(blkAt m c j ∗ dutyTok ER (cell c (kLoad (slotOf (trip c j)))) (trip c j / 6) ()) := by
  unfold tileSt; rw [if_neg (by omega), if_neg (by omega)]
theorem tileSt_fly (li lw : ℕ) (j : Dev nD) (h1 : lw ≤ trip c j) (h : trip c j < li) :
    tileSt m c li lw j = cred (tallyAt (cell c (kLoad (slotOf (trip c j)))) () Nw) := by
  unfold tileSt; rw [if_neg (by omega), if_pos h]
theorem tileSt_back (li lw : ℕ) (j : Dev nD) (h : trip c j < lw) : tileSt m c li lw j = blkAt m c j := by
  unfold tileSt; rw [if_pos h]

theorem slotSt_fly (ri rw' : ℕ) (s : Fin 6) (h : ri ≠ rw') :
    slotSt m c ri rw' s = iprop(atPos ER (cell c (kLoad s)) rw' ∅ 0 ∗ reached ER (cell c (kLoad s)) rw' ∗ emp) := by
  unfold slotSt; rw [if_neg h]
theorem slotSt_new (s : Fin 6) :
    slotSt m c 0 0 s = iprop(atPos ER (cell c (kLoad s)) 0 ∅ 0 ∗ reached ER (cell c (kLoad s)) 0 ∗ slotAny c s) := by
  unfold slotSt; rw [if_pos rfl, if_pos rfl]
theorem slotSt_full (r : ℕ) (s : Fin 6) :
    slotSt m c (r + 1) (r + 1) s
      = iprop(atPos ER (cell c (kLoad s)) (r + 1) ∅ 0 ∗ reached ER (cell c (kLoad s)) (r + 1) ∗ slotTile m c s (peer c (s.val + 6 * r))) := by
  unfold slotSt; rw [if_pos rfl, if_neg (Nat.succ_ne_zero r), Nat.add_sub_cancel]
/-- With nothing in flight a slot is there, whatever it holds. -/
theorem slotSt_free (r : ℕ) (s : Fin 6) :
    slotSt m c r r s ⊢ iprop(atPos ER (cell c (kLoad s)) r ∅ 0 ∗ reached ER (cell c (kLoad s)) r ∗ slotAny c s) := by
  cases r with
  | zero => rw [slotSt_new]
  | succ r =>
    rw [slotSt_full]; unfold slotTile slotAny
    iintro ⟨H1, H2, ⟨%f, -, H3⟩⟩
    isplitl [H1]; · iexact H1
    isplitl [H2]; · iexact H2
    iexists f; iexact H3

theorem tripAt_own (stage : ℕ) : tripAt m c c stage = iprop(bufAny c c ∗ atPos ER (cell c (kEntry c)) 0 ∅ 0 ∗ atPos ER (cell c (kSend c)) 0 ∅ 0) := if_pos rfl
theorem tripAt_0 (j : Dev nD) (h : j ≠ c) : tripAt m c j 0 = iprop(bufAny c j ∗ (atPos ER (cell c (kEntry j)) 0 ∅ 0 ∗ cred (tallyAt (cell c (kEntry j)) () 1))
    ∗ atPos ER (cell c (kSend j)) 0 ∅ 0 ∗ dutyTok ER (cell c (kSend j)) 0 () ∗ dutyTok ER (cell j (kRecv c)) 0 ()) := if_neg h
theorem tripAt_1 (j : Dev nD) (h : j ≠ c) : tripAt m c j 1 = iprop(bufProd m c j ∗ (atPos ER (cell c (kEntry j)) 0 ∅ 0 ∗ cred (tallyAt (cell c (kEntry j)) () 1))
    ∗ atPos ER (cell c (kSend j)) 0 ∅ 0 ∗ dutyTok ER (cell c (kSend j)) 0 () ∗ dutyTok ER (cell j (kRecv c)) 0 ()) := if_neg h
theorem tripAt_2 (j : Dev nD) (h : j ≠ c) : tripAt m c j 2 = iprop(bufProd m c j ∗ (atPos ER (cell c (kEntry j)) 1 ∅ 0 ∗ rowAny j c)
    ∗ atPos ER (cell c (kSend j)) 0 ∅ 0 ∗ dutyTok ER (cell c (kSend j)) 0 () ∗ dutyTok ER (cell j (kRecv c)) 0 ()) := if_neg h
theorem tripAt_3 (j : Dev nD) (h : j ≠ c) : tripAt m c j 3 = iprop(atPos ER (cell c (kEntry j)) 1 ∅ 0 ∗ atPos ER (cell c (kSend j)) 0 ∅ 0
    ∗ cred (tallyAt (cell c (kSend j)) () Np)) := if_neg h
theorem tripAt_4 (j : Dev nD) (h : j ≠ c) : tripAt m c j 4 = iprop(bufAny c j ∗ atPos ER (cell c (kEntry j)) 1 ∅ 0 ∗ atPos ER (cell c (kSend j)) 1 ∅ 0) := if_neg h

/-- Everything device `c` holds at progress `p`. -/
def St (K : Dev nD × Cx → ℕ) (p : Prog') : sProp 𝕄 :=
  iprop(records m K ∗ levAts L lv ∗ barSt (F := F) c p.bar ∗ (bigSep Finset.univ fun n => rowSt m c p.sg p.ow p.rv n) ∗ xSt m c p.xs
    ∗ (bigSep Finset.univ fun j => tileSt m c p.li p.lw j) ∗ (bigSep Finset.univ fun s => slotSt m c (cnt p.li s) (cnt p.lw s) s)
    ∗ (bigSep Finset.univ fun j => tripSt m c p.tr p.sw j) ∗ ∃ W, owes (c : Thread nD τ) (debt c p.sg p.tr) W)

end Families

abbrev 𝒱₀ : Variants := Variants.none

/-- The weakest precondition of a program of device `c`. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

end Cert.A2A
end
-- ==== Proof.Steps.lean ====
/-
# One step of the body at a time

A lemma per kind of effect: from what the device holds before it to what it holds after it. Offsets, semaphores and
devices are variables with an equation each, as the program computes them.
-/
module

public import proofs.«01_k».proof.Proof.State

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The debt -/

theorem sum_peel {T : Type} [AddCommMonoid T] {f f' : Dev nD → T} (n : Dev nD) (x : T) (hn : f n = f' n + x) (h : ∀ j, j ≠ n → f j = f' j) :
    ∑ j, f j = ∑ j, f' j + x := by
  rw [← Finset.add_sum_erase _ f (Finset.mem_univ n), ← Finset.add_sum_erase _ f' (Finset.mem_univ n), hn,
    Finset.sum_congr rfl fun j hj => h j (Finset.ne_of_mem_erase hj), add_right_comm]

theorem debt_sig (c n : Dev nD) (hn : n ≠ c) (sg tr : ℕ) (hsg : n.val = sg) :
    debt c sg tr = debt c (sg + 1) tr + tallyAt (cell n (kEntry c)) () 1 := by
  unfold debt owed
  rw [sum_peel (f' := fun j : Dev nD => if j ≠ c ∧ sg + 1 ≤ j.val then tallyAt (cell j (kEntry c)) () 1 else 0) n (tallyAt (cell n (kEntry c)) () 1)
    (by rw [if_pos ⟨hn, hsg.ge⟩, if_neg (fun h => by omega), zero_add])
    (fun j hj => by
      have : (sg ≤ j.val) = (sg + 1 ≤ j.val) := propext ⟨fun h => by have : j.val ≠ n.val := fun e => hj (Fin.ext e); omega, fun h => by omega⟩
      simp only [this])]
  rw [add_right_comm]

theorem debt_self (c : Dev nD) (tr : ℕ) : debt c c.val tr = debt c (c.val + 1) tr := by
  unfold debt owed
  refine congrArg (· + _) (Finset.sum_congr rfl fun j _ => ?_)
  by_cases h : j = c
  · rw [if_neg (fun h' => h'.1 h), if_neg (fun h' => h'.1 h)]
  · have : (c.val ≤ j.val) = (c.val + 1 ≤ j.val) := propext ⟨fun h' => by have : j.val ≠ c.val := fun e => h (Fin.ext e); omega, fun h => by omega⟩
    simp only [this]

theorem debt_send (c n : Dev nD) (hn : n ≠ c) (sg t : ℕ) (ht : trip c n = t) :
    debt c sg (3 * t + 2) = debt c sg (3 * t + 3) + tallyAt (cell n (kRecv c)) () Np := by
  unfold debt owed
  rw [sum_peel (f := fun j : Dev nD => if j ≠ c ∧ 3 * t + 2 < 3 * trip c j + 3 then tallyAt (cell j (kRecv c)) () Np else 0)
    (f' := fun j : Dev nD => if j ≠ c ∧ 3 * t + 3 < 3 * trip c j + 3 then tallyAt (cell j (kRecv c)) () Np else 0) n (tallyAt (cell n (kRecv c)) () Np)
    (by rw [if_pos ⟨hn, by omega⟩, if_neg (fun h => by omega), zero_add])
    (fun j hj => by
      have : (3 * t + 2 < 3 * trip c j + 3) = (3 * t + 3 < 3 * trip c j + 3) := propext ⟨fun h => by
        have : trip c j ≠ t := by rw [← ht]; exact fun e => hj (by rw [← peer_trip c j, e, peer_trip])
        omega, fun h => by omega⟩
      simp only [this]), add_assoc]

/-- Storing and waiting on an entry change no debt. -/
theorem debt_step (c : Dev nD) (sg t k : ℕ) (hk : k < 2) : debt c sg (3 * t + k) = debt c sg (3 * t + (k + 1)) := by
  unfold debt owed
  refine congrArg (_ + ·) (Finset.sum_congr rfl fun j _ => ?_)
  have : (3 * t + k < 3 * trip c j + 3) = (3 * t + (k + 1) < 3 * trip c j + 3) := propext ⟨fun h => by omega, fun h => by omega⟩
  simp only [this]

theorem debt_zero (c : Dev nD) (sg tr : ℕ) (h1 : 16 ≤ sg) (h2 : 45 ≤ tr) : debt c sg tr = 0 := by
  unfold debt owed
  rw [Finset.sum_eq_zero, Finset.sum_eq_zero, add_zero]
  · intro n _
    refine if_neg fun h => ?_
    have h3 := trip_lt c n
    have h4 : trip c n ≠ 15 := fun e => h.1 (trip_eq_15.mp e)
    omega
  · intro n _
    refine if_neg fun h => ?_
    have := n.isLt; simp only [nD] at this; omega

/-! ## Waiting on one of the device's own cells -/

variable (K : Dev nD × Cx → ℕ) (c : Dev nD)

theorem wait_cell (kx : Cx) (R : ℕ) (hact : active c kx R) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem kx) k' Kt)
    (hk : k' = units kx) {α : Type} {k : PUnit → Prog (TpuEff nD τ sig (Elt F) Λ₀ .tc) α} {Q : α → sProp 𝕄}
    (O : CellTallies nD τ sig Unit) (W : Waits sig Unit) :
    iprop(records m K ∗ cred (tallyAt (cell c kx) () (units kx)) ∗ owes (c : Thread nD τ) O W ∗ MayWait (c : Thread nD τ) (csem kx) () O
        ∗ atPos ER (cell c kx) R ∅ 0)
      ⊢ iprop((((∃ W', owes (c : Thread nD τ) O W') ∗ atPos ER (cell c kx) (R + 1) ∅ 0 ∗ reached ER (cell c kx) (R + 1) ∗ pay m c kx R) -∗ WP c (k ⟨⟩) Q)
          -∗ WP c (.op w k) Q) := by
  subst hk
  iintro ⟨#Hrec, Hc, HO, Hm, Hat⟩ Hk
  ihave Hi := (records_at m K c kx) $$ Hrec
  icases Hi with ⟨#HI, -⟩
  iapply (Rounds.wp_wait_rest_token 𝒱₀ ER (Rd m) (c : Thread nD τ) none (κ := K (c, kx)) hw (Set.mem_univ _) () (O := O) (W := W) (R := R) (m := 0) (T := ∅)
    (by rw [Nat.zero_add, expect_eq m c kx R hact])) $$ [Hc HO Hm Hat]
  · isplitr; · iexact HI
    isplitl [Hc]; · iexact Hc
    isplitl [HO]; · iexact HO
    isplitl [Hm]; · iexact Hm
    iexact Hat
  iintro ⟨HO, Hat, Hr, Hp⟩
  ihave Hp := (Entails.of_eq (rest_eq m c kx R hact)) $$ Hp
  iapply Hk
  isplitl [HO]; · iexists _; iexact HO
  isplitl [Hat]; · iexact Hat
  isplitl [Hr] <;> iassumption

/-! ## One member of a family changes -/

theorem row_sig (sg ow rv : ℕ) (n : Dev nD) (hn : n.val = sg) :
    (bigSep Finset.univ fun j => rowSt m c sg ow rv j) ⊢ iprop(rowSt m c sg ow rv n ∗ (rowSt m c (sg + 1) ow rv n -∗ bigSep Finset.univ fun j => rowSt m c (sg + 1) ow rv j)) :=
  bigSep_univ_update (Φ := fun j => rowSt m c sg ow rv j) (Ψ := fun j => rowSt m c (sg + 1) ow rv j) n fun j hj => by
    have : (j.val < sg + 1) = (j.val < sg) := propext ⟨fun h => by have : j.val ≠ n.val := fun e => hj (Fin.ext e); omega, fun h => by omega⟩
    simp only [rowSt, this]
theorem row_sig_self (ow rv : ℕ) : (fun j => rowSt m c c.val ow rv j) = fun j => rowSt m c (c.val + 1) ow rv j := by
  funext j
  by_cases h : j = c
  · simp only [rowSt, if_pos h]
  · have : (j.val < c.val + 1) = (j.val < c.val) := propext ⟨fun h' => by have : j.val ≠ c.val := fun e => h (Fin.ext e); omega, fun h => by omega⟩
    simp only [rowSt, this]
theorem row_own (sg rv : ℕ) :
    (bigSep Finset.univ fun j => rowSt m c sg 0 rv j) ⊢ iprop(rowSt m c sg 0 rv c ∗ (rowSt m c sg 1 rv c -∗ bigSep Finset.univ fun j => rowSt m c sg 1 rv j)) :=
  bigSep_univ_update (Φ := fun j => rowSt m c sg 0 rv j) (Ψ := fun j => rowSt m c sg 1 rv j) c fun j hj => by
    simp only [rowSt, if_neg hj]
theorem row_recv (sg ow rv : ℕ) (n : Dev nD) (hn : n.val = rv) :
    (bigSep Finset.univ fun j => rowSt m c sg ow rv j) ⊢ iprop(rowSt m c sg ow rv n ∗ (rowSt m c sg ow (rv + 1) n -∗ bigSep Finset.univ fun j => rowSt m c sg ow (rv + 1) j)) :=
  bigSep_univ_update (Φ := fun j => rowSt m c sg ow rv j) (Ψ := fun j => rowSt m c sg ow (rv + 1) j) n fun j hj => by
    have : (j.val < rv + 1) = (j.val < rv) := propext ⟨fun h => by have : j.val ≠ n.val := fun e => hj (Fin.ext e); omega, fun h => by omega⟩
    simp only [rowSt, this]
theorem row_recv_self (sg ow : ℕ) : (fun j => rowSt m c sg ow c.val j) = fun j => rowSt m c sg ow (c.val + 1) j := by
  funext j
  by_cases h : j = c
  · simp only [rowSt, if_pos h]
  · have : (j.val < c.val + 1) = (j.val < c.val) := propext ⟨fun h' => by have : j.val ≠ c.val := fun e => h (Fin.ext e); omega, fun h => by omega⟩
    simp only [rowSt, this]

theorem tile_issue (lw t : ℕ) (ht : t < 16) :
    (bigSep Finset.univ fun j => tileSt m c t lw j) ⊢ iprop(tileSt m c t lw (peer c t) ∗ (tileSt m c (t + 1) lw (peer c t) -∗ bigSep Finset.univ fun j => tileSt m c (t + 1) lw j)) :=
  bigSep_univ_update (Φ := fun j => tileSt m c t lw j) (Ψ := fun j => tileSt m c (t + 1) lw j) (peer c t) fun j hj => by
    have : (trip c j < t + 1) = (trip c j < t) := propext ⟨fun h => by have := trip_ne hj; omega, fun h => by omega⟩
    simp only [tileSt, this]
theorem tile_take (li t : ℕ) (ht : t < 16) :
    (bigSep Finset.univ fun j => tileSt m c li t j) ⊢ iprop(tileSt m c li t (peer c t) ∗ (tileSt m c li (t + 1) (peer c t) -∗ bigSep Finset.univ fun j => tileSt m c li (t + 1) j)) :=
  bigSep_univ_update (Φ := fun j => tileSt m c li t j) (Ψ := fun j => tileSt m c li (t + 1) j) (peer c t) fun j hj => by
    have : (trip c j < t + 1) = (trip c j < t) := propext ⟨fun h => by have := trip_ne hj; omega, fun h => by omega⟩
    simp only [tileSt, this]

theorem cnt_succ_ne (t : ℕ) (s : Fin 6) (h : s ≠ slotOf t) : cnt (t + 1) s = cnt t s := by
  have h' : s.val ≠ t % 6 := fun e => h (Fin.ext e)
  have := s.isLt
  unfold cnt; omega
theorem cnt_at (t : ℕ) : cnt t (slotOf t) = t / 6 := by
  show (t + 5 - t % 6) / 6 = t / 6; omega
theorem cnt_at_succ (t : ℕ) : cnt (t + 1) (slotOf t) = t / 6 + 1 := by
  show (t + 1 + 5 - t % 6) / 6 = t / 6 + 1; omega
/-- Six tiles are in flight at most: the slot tile `t` goes to has been emptied. -/
theorem cnt_free (t lw : ℕ) (h : t < lw + 6) (hl : lw ≤ t) : cnt lw (slotOf t) = t / 6 := by
  show (lw + 5 - t % 6) / 6 = t / 6; omega

theorem slot_issue (lw t : ℕ) :
    (bigSep Finset.univ fun s => slotSt m c (cnt t s) (cnt lw s) s) ⊢ iprop(slotSt m c (cnt t (slotOf t)) (cnt lw (slotOf t)) (slotOf t)
      ∗ (slotSt m c (cnt (t + 1) (slotOf t)) (cnt lw (slotOf t)) (slotOf t) -∗ bigSep Finset.univ fun s => slotSt m c (cnt (t + 1) s) (cnt lw s) s)) :=
  bigSep_univ_update (Φ := fun s => slotSt m c (cnt t s) (cnt lw s) s) (Ψ := fun s => slotSt m c (cnt (t + 1) s) (cnt lw s) s) (slotOf t) fun s hs => by
    rw [cnt_succ_ne t s hs]
theorem slot_take (li t : ℕ) :
    (bigSep Finset.univ fun s => slotSt m c (cnt li s) (cnt t s) s) ⊢ iprop(slotSt m c (cnt li (slotOf t)) (cnt t (slotOf t)) (slotOf t)
      ∗ (slotSt m c (cnt li (slotOf t)) (cnt (t + 1) (slotOf t)) (slotOf t) -∗ bigSep Finset.univ fun s => slotSt m c (cnt li s) (cnt (t + 1) s) s)) :=
  bigSep_univ_update (Φ := fun s => slotSt m c (cnt li s) (cnt t s) s) (Ψ := fun s => slotSt m c (cnt li s) (cnt (t + 1) s) s) (slotOf t) fun s hs => by
    rw [cnt_succ_ne t s hs]

theorem trip_step (t k : ℕ) (ht : t < 15) (hk : k < 3) :
    (bigSep Finset.univ fun j => tripSt m c (3 * t + k) 0 j) ⊢ iprop(tripAt m c (peer c t) k
      ∗ (tripAt m c (peer c t) (k + 1) -∗ bigSep Finset.univ fun j => tripSt m c (3 * t + (k + 1)) 0 j)) := by
  have e1 : tripSt m c (3 * t + k) 0 (peer c t) = tripAt m c (peer c t) k := by
    unfold tripSt stage; rw [trip_peer c (by omega), if_neg (Nat.not_lt_zero _)]; congr 1; omega
  have e2 : tripSt m c (3 * t + (k + 1)) 0 (peer c t) = tripAt m c (peer c t) (k + 1) := by
    unfold tripSt stage; rw [trip_peer c (by omega), if_neg (Nat.not_lt_zero _)]; congr 1; omega
  rw [← e1, ← e2]
  refine bigSep_univ_update (Φ := fun j => tripSt m c (3 * t + k) 0 j) (Ψ := fun j => tripSt m c (3 * t + (k + 1)) 0 j) (peer c t) fun j hj => ?_
  have := trip_ne hj
  show tripSt m c _ 0 j = tripSt m c _ 0 j
  simp only [tripSt, stage, Nat.not_lt_zero, if_false]; congr 1; omega
theorem trip_wait (tr t : ℕ) (ht : t < 15) (htr : 3 * t + 3 ≤ tr) :
    (bigSep Finset.univ fun j => tripSt m c tr t j) ⊢ iprop(tripAt m c (peer c t) 3
      ∗ (tripAt m c (peer c t) 4 -∗ bigSep Finset.univ fun j => tripSt m c tr (t + 1) j)) := by
  have e1 : tripSt m c tr t (peer c t) = tripAt m c (peer c t) 3 := by
    unfold tripSt stage; rw [trip_peer c (by omega), if_neg (by omega)]; congr 1; omega
  have e2 : tripSt m c tr (t + 1) (peer c t) = tripAt m c (peer c t) 4 := by
    unfold tripSt stage; rw [trip_peer c (by omega), if_pos (by omega)]
  rw [← e1, ← e2]
  refine bigSep_univ_update (Φ := fun j => tripSt m c tr t j) (Ψ := fun j => tripSt m c tr (t + 1) j) (peer c t) fun j hj => ?_
  have h := trip_ne hj
  have : (trip c j < t + 1) = (trip c j < t) := propext ⟨fun h' => by omega, fun h' => by omega⟩
  simp only [tripSt, stage, this]

variable {α : Type} {k : PUnit → Prog (TpuEff nD τ sig (Elt F) Λ₀ .tc) α} {Q : α → sProp (MT nD τ sig Unit (Elt F) ℕ UU ℕ)} {bar sg xs li lw tr ow rv sw : ℕ}

/-- Waits of level 0 are always allowed. -/
theorem mayWait_low (kx : Cx) (hk : lvK kx = 0) (sg tr : ℕ) : (levAts L lv : sProp 𝕄) ⊢ MayWait (c : Thread nD τ) (csem kx) () (debt c sg tr) :=
  mayWait c (csem kx) _ _ (fun _ => by rw [lv_cell, hk]; decide) (by rw [lv_cell, hk]; decide)
/-- A wait for an entry signal is allowed once the device's own are all sent. -/
theorem mayWait_entry (j : Dev nD) (sg tr : ℕ) (h : 16 ≤ sg) :
    (levAts L lv : sProp 𝕄) ⊢ MayWait (c : Thread nD τ) (csem (kEntry j)) () (debt c sg tr) :=
  mayWait c (csem (kEntry j)) _ _ (fun ⟨n, hn⟩ => by have := n.isLt; simp only [nD] at this; omega) (by rw [lv_cell]; exact Nat.lt_succ_self 1)

/-! ## The self-signalled barrier -/

theorem step_barSignal {d : Dev nD} {sem : Sem sig} {a : Int} (hp : bar = 0) (hd : d = c) (hs : sem = barSem) (ha : a = ((1 : ℕ) : Int))
    (h : St m c K ⟨1, sg, xs, li, lw, tr, ow, rv, sw⟩ ⊢ WP c (k ⟨⟩) Q) :
    St m c K ⟨bar, sg, xs, li, lw, tr, ow, rv, sw⟩ ⊢ WP c (.op (.semSignal (d, Proc.tc) sem a) k) Q := by
  subst hd hs ha
  unfold St; dsimp only; rw [hp]
  iintro ⟨#Hrec, #Hlev, Hbar, Hrow, Hx, Htile, Hslot, Htrip, Ho⟩
  ihave Hbar := (Entails.of_eq (barSt_0 d)) $$ Hbar
  icases Hbar with ⟨Hat, Ht⟩
  ihave Hi := (records_at m K d kBar) $$ Hrec
  icases Hi with ⟨#HI, #Hr⟩
  iapply (wp_semSignal_unpaid 𝒱₀ (d : Thread nD τ) none Set.univ (dst := (d : Thread nD τ)) (sem := barSem) (k' := 1) ()) $$ [Ht]
  · ihave Hl := (land_held ER (Rd m) (κ := K (d, kBar)) (g := cell d kBar) (r := 0) (d := ()) (mem_duties m d kBar 0 rfl)) $$ [Ht]
    · isplitr; · iexact HI
      isplitr; · rw [payload_eq]; unfold pay; iempintro
      isplitl [Ht]; · iexact Ht
      iexact Hr
    rw [amount_eq]
    iexact Hl
  iintro Hc
  iapply h
  unfold St; dsimp only
  rw [barSt_1]
  iframe # ∗
  iexact Hc

theorem step_barWait {sem : Sem sig} {a : Int} (hp : bar = 1) (hs : sem = barSem) (ha : a = ((1 : ℕ) : Int))
    (h : St m c K ⟨2, sg, xs, li, lw, tr, ow, rv, sw⟩ ⊢ WP c (k ⟨⟩) Q) :
    St m c K ⟨bar, sg, xs, li, lw, tr, ow, rv, sw⟩ ⊢ WP c (.op (.semWait sem a) k) Q := by
  subst hs ha
  unfold St; dsimp only; rw [hp]
  iintro ⟨#Hrec, #Hlev, Hbar, Hrow, Hx, Htile, Hslot, Htrip, ⟨%W, HO⟩⟩
  ihave Hbar := (Entails.of_eq (barSt_1 c)) $$ Hbar
  icases Hbar with ⟨Hat, Hc⟩
  iapply (wait_cell m K c kBar 0 rfl (wpE_semWait_eq 𝒱₀ (c : Thread nD τ) none Set.univ) rfl (debt c sg tr) W) $$ [Hat Hc HO]
  · isplitr; · iexact Hrec
    isplitl [Hc]; · iexact Hc
    isplitl [HO]; · iexact HO
    isplitr; · iapply (mayWait_low c kBar rfl); iexact Hlev
    iexact Hat
  iintro ⟨HO, Hat, -, -⟩
  iapply h
  unfold St; dsimp only
  rw [barSt_2]
  iframe # ∗

end Cert.A2A
end
-- ==== Proof.Moves.lean ====
/-
# The steps of loading, multiplying, sending and receiving
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cx → ℕ) (c : Dev nD)
variable {α : Type} {k : PUnit → Prog (TpuEff nD τ sig (Elt F) Λ₀ .tc) α} {Q : α → sProp (MT nD τ sig Unit (Elt F) ℕ UU ℕ)} {bar sg xs li lw tr ow rv sw : ℕ}

/-! ## Semaphores as the program names them -/

theorem load_sem (s : Fin 6) (off : Fin 1 → ℕ) (inb) (h : off = ![s.val]) :
    ((cc0_scratch4.slice (Rect.unit (s := S6) off ![1] inb)).squeeze S_ squeezes_S1_S_).sem = loadSem s := by
  subst h; revert s; decide
theorem send_sem (j : Dev nD) (off : Fin 1 → ℕ) (inb) (h : off = ![j.val]) :
    ((cc0_scratch5.slice (Rect.unit (s := S16) off ![1] inb)).squeeze S_ squeezes_S1_S_).sem = sendSem j := by
  subst h; revert j; decide
theorem recv_sem (j : Dev nD) (off : Fin 1 → ℕ) (inb) (h : off = ![j.val]) :
    ((cc0_scratch6.slice (Rect.unit (s := S16) off ![1] inb)).squeeze S_ squeezes_S1_S_).sem = recvSem j := by
  subst h; revert j; decide
theorem entry_sem (j : Dev nD) (off : Fin 1 → ℕ) (inb) (h : off = ![j.val]) :
    ((cc0_scratch7.slice (Rect.unit (s := S16) off ![1] inb)).squeeze S_ squeezes_S1_S_).sem = entrySem j := by
  subst h; revert j; decide

/-- What a wait on a DMA semaphore waits for. -/
theorem waits {c : Dev nD} {sp sp' : Space} {s s' : Shape} {e e' : EltTy} {sem sem' : DmaSem sig} {src : Memref sig .tc sp' s' e'} {dst : Memref sig .tc sp s e} {hsrc hdst} {N : ℕ}
    (hs : sem = sem') (hN : dst.view.dmaCredit = N) :
    ∃ sm k', (∀ Kt : PUnit → sProp 𝕄, wpE (defs₀ (F := F)) 𝒱₀ (c : Thread nD τ) none Set.univ (.waitDma2 sem src dst hsrc hdst) Kt
      = waitSpec (c : Thread nD τ) Set.univ (.dma sm) k' Kt) ∧ sm = sem' ∧ k' = N :=
  ⟨sem, _, wpE_waitDma2_eq 𝒱₀ (c : Thread nD τ) none Set.univ, hs, hN⟩

/-- A send slot's transfer has the credit of a row block's. -/
theorem sent_credit {off : Fin 3 → ℕ} {inb} :
    ((sM.slice (Rect.unit (s := S16x256x128) off S1x256x128.size inb) (fun _ => rfl)).squeeze S256x128 squeezes_S1x256x128_S256x128).view.dmaCredit = Np := rfl

/-- The position a device computes from its own number. -/
abbrev myPos (c : Dev nD) : BitVec 32 := Scalar.remsi (Scalar.divsi (Dev.word c) 1#32) 16#32

theorem own_prod : k0_pay20 (k0_pay1 (xAt m c)) (tileAt m c (peer c 15)) = prodAt m c c := by
  rw [peer_15]; rfl

/-- A device reads its own number. -/
theorem step_dev {kd : Dev nD → Prog (TpuEff nD τ sig (Elt F) Λ₀ .tc) α} {P : sProp 𝕄} (h : P ⊢ WP c (kd c) Q) : P ⊢ WP c (.op .deviceId kd) Q := by
  unfold WP; rw [wp_deviceId]; exact h

/-- A program that ends. -/
theorem step_ret {a : α} {P : sProp 𝕄} (h : P ⊢ Q a) : P ⊢ WP c (.ret a) Q := by
  unfold WP; rw [wp_ret]
  iintro H; imodintro; iapply h; iexact H

/-! ## Entry signals -/

/-- The entry signal to device `n`, skipped when `n` is the device itself. -/
theorem step_sig (n : Dev nD) {cond : BitVec 1} {dst : cond = 1#1 → Dev nD} {sem : cond = 1#1 → Sem sig} {a : Int}
    {rest : Prog (TpuEff nD τ sig (Elt F) Λ₀ .tc) α}
    (hc : cond = 1#1 ↔ n ≠ c) (hd : ∀ h, dst h = n) (hs : ∀ h, sem h = entrySem c) (ha : a = ((1 : ℕ) : Int))
    (hsg : sg = n.val) (hrv : rv = 0) (h : St m c K ⟨bar, n.val + 1, xs, li, lw, tr, ow, rv, sw⟩ ⊢ WP c rest Q) :
    St m c K ⟨bar, sg, xs, li, lw, tr, ow, rv, sw⟩ ⊢ WP c (if hh : cond = 1#1 then .op (.semSignal (dst hh, Proc.tc) (sem hh) a) (fun _ => rest) else rest) Q := by
  subst ha
  by_cases hn : n = c
  · subst hn
    rw [dif_neg (fun h' => (hc.1 h') rfl)]
    refine BIBase.Entails.trans ?_ h
    unfold St; dsimp only; rw [hsg, row_sig_self, debt_self]
  · have hh := hc.2 hn
    rw [dif_pos hh, hd hh, hs hh]
    unfold St; dsimp only; rw [hsg, hrv]
    iintro ⟨#Hrec, #Hlev, Hbar, Hrow, Hx, Htile, Hslot, Htrip, ⟨%W, HO⟩⟩
    ihave Hrow := (row_sig m c n.val ow 0 n rfl) $$ Hrow
    icases Hrow with ⟨Hn, Hrow⟩
    ihave Hn := (Entails.of_eq (rowSt_pre m c n.val ow n hn (Nat.lt_irrefl _))) $$ Hn
    icases Hn with ⟨Hat, Hc, Hr, Ht⟩
    ihave Hi := (records_at m K n (kEntry c)) $$ Hrec
    icases Hi with ⟨#HI, #Hre⟩
    iapply (Rounds.wp_signal 𝒱₀ ER (Rd m) (c : Thread nD τ) none (dst := (n : Thread nD τ)) (sem := entrySem c) (κ := K (n, kEntry c)) (r := 0) (d := ())
      (mem_duties m n (kEntry c) 0 ⟨rfl, Ne.symm hn⟩) (k' := 1) (amount_eq m n (kEntry c) 0 ()) () (debt c (n.val + 1) tr) (debt_sig c n hn n.val tr rfl)) $$ [HO Ht Hr]
    · isplitr; · iexact HI
      isplitl [HO]; · iexact HO
      isplitl [Ht]; · iexact Ht
      isplitl [Hr]
      · rw [show (Rd m).payload ((n : Thread nD τ), .reg (entrySem c)) 0 () = rowAny c n from payload_eq m n (kEntry c) 0 ()]; iexact Hr
      iexact Hre
    iintro HO
    iapply h
    unfold St; dsimp only
    rw [hrv]
    ihave Hrow := Hrow $$ [Hat Hc]
    · rw [rowSt_lent m c (n.val + 1) ow 0 n hn (Nat.lt_succ_self _) (Nat.not_lt_zero _)]
      iframe
    iframe # ∗
    iexists W; iexact HO

/-! ## Loading `x` -/

theorem step_xIssue {sem : SemLoc sig} {hsrc hdst hsem} (hp : xs = 0) (hs : sem = .dma xSem)
    (h : St m c K ⟨bar, sg, 1, li, lw, tr, ow, rv, sw⟩ ⊢ WP c (k ⟨⟩) Q) :
    St m c K ⟨bar, sg, xs, li, lw, tr, ow, rv, sw⟩ ⊢ WP c (.op (.enqueueDma xA (.here xM) sem hsrc hdst hsem) k) Q := by
  subst hs
  unfold St; dsimp only; rw [hp]
  iintro ⟨#Hrec, #Hlev, Hbar, Hrow, Hx, Htile, Hslot, Htrip, Ho⟩
  ihave Hx := (Entails.of_eq (xSt_0 m c)) $$ Hx
  icases Hx with ⟨Hat, Ht, Hsrc, ⟨%f, Hdst⟩⟩
  ihave Hi := (records_at m K c kX) $$ Hrec
  icases Hi with ⟨#HI, #Hre⟩
  iapply (Rounds.wp_copy_pointsTo 𝒱₀ ER (Rd m) (c : Thread nD τ) none (q := fullShare) (sem := .dma xSem) (κ := K (c, kX)) (r := 0) (d := ()) (src := xA) (dst := xM) (fs := xAt m c) (fd := f)
    (mem_duties m c kX 0 rfl) () Nx rfl (amount_eq m c kX 0 ())
    (by
      rw [show (Rd m).payload ((c : Thread nD τ), .dma xSem) 0 () = iprop(holds c xM (xAt m c) ∗ holds c xA (xAt m c)) from payload_eq m c kX 0 ()]
      unfold holds
      refine sep_mono_left (Entails.of_eq (pointsTo_congr fun x hx => ?_))
      exact congrFun (View.read_write_univ (v := xM.view) f (xAt m c)) x)) $$ [Hsrc Hdst Ht]
  · isplitr; · iexact HI
    isplitl [Hsrc]; · unfold holds; iexact Hsrc
    isplitl [Hdst]; · unfold holds; iexact Hdst
    isplitl [Ht]; · iexact Ht
    iexact Hre
  iintro Hc
  iapply h
  unfold St; dsimp only
  ihave Hx := (Entails.of_eq (xSt_1 m c).symm) $$ [Hat Hc]
  · isplitl [Hat]; · iexact Hat
    iexact Hc
  iframe # ∗

theorem step_xWait {w : TpuEff nD τ sig (Elt F) Λ₀ .tc PUnit} (hp : xs = 1)
    (hw : ∃ sem k', (∀ Kt : PUnit → sProp 𝕄, wpE (defs₀ (F := F)) 𝒱₀ (c : Thread nD τ) none Set.univ w Kt = waitSpec (c : Thread nD τ) Set.univ (.dma sem) k' Kt)
      ∧ sem = xSem ∧ k' = Nx)
    (h : St m c K ⟨bar, sg, 2, li, lw, tr, ow, rv, sw⟩ ⊢ WP c (k ⟨⟩) Q) :
    St m c K ⟨bar, sg, xs, li, lw, tr, ow, rv, sw⟩ ⊢ WP c (.op w k) Q := by
  obtain ⟨sem, k', hw, rfl, rfl⟩ := hw
  unfold St; dsimp only; rw [hp]
  iintro ⟨#Hrec, #Hlev, Hbar, Hrow, Hx, Htile, Hslot, Htrip, ⟨%W, HO⟩⟩
  ihave Hx := (Entails.of_eq (xSt_1 m c)) $$ Hx
  icases Hx with ⟨Hat, Hc⟩
  iapply (wait_cell m K c kX 0 rfl hw rfl (debt c sg tr) W) $$ [Hat Hc HO]
  · isplitr; · iexact Hrec
    isplitl [Hc]; · iexact Hc
    isplitl [HO]; · iexact HO
    isplitr; · iapply (mayWait_low c kX rfl); iexact Hlev
    iexact Hat
  iintro ⟨Ho, Hat, -, Hp⟩
  iapply h
  unfold St; dsimp only
  ihave Hx := (Entails.of_eq (xSt_2 m c).symm) $$ [Hat Hp]
  · isplitl [Hat]; · iexact Hat
    iapply (Entails.of_eq (show pay m c kX 0 = iprop(holds c xM (xAt m c) ∗ holds c xA (xAt m c)) from rfl)); iexact Hp
  iframe # ∗

theorem step_xLoad {off : Fin 2 → ℕ} {inb} {hl} {k' : Vec F S256x4096 .f32 → Prog (TpuEff nD τ sig (Elt F) Λ₀ .tc) α} (hp : xs = 2) (ho : off = fun _ => 0)
    (h : St m c K ⟨bar, sg, xs, li, lw, tr, ow, rv, sw⟩ ⊢ WP c (k' (xAt m c)) Q) :
    St m c K ⟨bar, sg, xs, li, lw, tr, ow, rv, sw⟩ ⊢ WP c (.op (.load xM (Rect.unit (s := S256x4096) off S256x4096.size inb).toLoadRect hl) k') Q := by
  unfold St at h ⊢; dsimp only at h ⊢; rw [hp] at h ⊢
  iintro ⟨#Hrec, #Hlev, Hbar, Hrow, Hx, Htile, Hslot, Htrip, Ho⟩
  ihave Hx := (Entails.of_eq (xSt_2 m c)) $$ Hx
  icases Hx with ⟨Hat, Hx, Ha⟩
  iapply (wp_load 𝒱₀ (c : Thread nD τ) none Set.univ (m := xM) (S := xM.view.set) (View.setOn_subset_set _ _)) $$ [Hx]
  · unfold holds; iexact Hx
  iintro Hx
  rw [show xM.view.readAt (Elt F) (Rect.unit (s := S256x4096) off S256x4096.size inb).toLoadRect (xAt m c) = xAt m c from
    Memref.readAt_unit_zero (Elt F) cc0_scratch0 ho inb (xAt m c)]
  iapply h
  ihave Hx := (Entails.of_eq (xSt_2 m c).symm) $$ [Hat Hx Ha]
  · isplitl [Hat]; · iexact Hat
    isplitl [Hx]; · unfold holds; iexact Hx
    iexact Ha
  iframe # ∗

/-! ## The tile ring -/

/-- Trip `t`'s tile is requested into its slot, empty by then. -/
theorem step_issue (t : ℕ) (ht : t < 16) {offs : Fin 2 → ℕ} {inbs} {offd : Fin 3 → ℕ} {inbd} {sem : SemLoc sig} {hsrc hdst hsem}
    (hos : offs = ![0, 128 * (peer c t).val]) (hod : offd = ![(slotOf t).val, 0, 0]) (hs : sem = .dma (loadSem (slotOf t)))
    (hli : li = t) (hlw : lw ≤ t) (hfree : t < lw + 6)
    (h : St m c K ⟨bar, sg, xs, t + 1, lw, tr, ow, rv, sw⟩ ⊢ WP c (k ⟨⟩) Q) :
    St m c K ⟨bar, sg, xs, li, lw, tr, ow, rv, sw⟩ ⊢ WP c (.op (.enqueueDma (wA.slice (Rect.unit (s := S4096x2048) offs S4096x128.size inbs) (fun _ => rfl))
      (.here ((wM.slice (Rect.unit (s := S6x4096x128) offd S1x4096x128.size inbd) (fun _ => rfl)).squeeze S4096x128 squeezes_S1x4096x128_S4096x128))
      sem hsrc hdst hsem) k) Q := by
  subst hos hod hs
  unfold St; dsimp only; rw [hli]
  iintro ⟨#Hrec, #Hlev, Hbar, Hrow, Hx, Htile, Hslot, Htrip, Ho⟩
  ihave Htile := (tile_issue m c lw t ht) $$ Htile
  icases Htile with ⟨Ht, Htile⟩
  ihave Ht := (Entails.of_eq (tileSt_pre m c t lw (peer c t) hlw (by rw [trip_peer c ht]))) $$ Ht
  icases Ht with ⟨Hb, Hd⟩
  ihave Hslot := (slot_issue m c lw t) $$ Hslot
  icases Hslot with ⟨Hs, Hslot⟩
  rw [trip_peer c ht, cnt_at, cnt_at_succ, cnt_free t lw hfree hlw]
  ihave Hs := (slotSt_free m c (t / 6) (slotOf t)) $$ Hs
  unfold slotAny
  icases Hs with ⟨Hat, #Hre, ⟨%f, Hs⟩⟩
  ihave Hi := (records_at m K c (kLoad (slotOf t))) $$ Hrec
  icases Hi with ⟨#HI, -⟩
  have et : (slotOf t).val + 6 * (t / 6) = t := Nat.mod_add_div t 6
  iapply (Rounds.wp_copy_pointsTo 𝒱₀ ER (Rd m) (c : Thread nD τ) none (q := fullShare) (sem := .dma (loadSem (slotOf t))) (κ := K (c, kLoad (slotOf t))) (r := t / 6) (d := ())
    (src := wBlk (peer c t)) (dst := wSlot (slotOf t)) (fs := m ((c : Thread nD τ).loc main_arg1)) (fd := f)
    (mem_duties m c (kLoad (slotOf t)) (t / 6) (by show (slotOf t).val + 6 * (t / 6) < 16; omega)) () Nw rfl (amount_eq m c (kLoad (slotOf t)) (t / 6) ())
    (by
      rw [show (Rd m).payload ((c : Thread nD τ), .dma (loadSem (slotOf t))) (t / 6) ()
        = iprop(slotTile m c (slotOf t) (peer c ((slotOf t).val + 6 * (t / 6))) ∗ blkAt m c (peer c ((slotOf t).val + 6 * (t / 6))))
        from payload_eq m c (kLoad (slotOf t)) (t / 6) (), et]
      unfold slotTile blkAt holds
      iintro ⟨H1, H2⟩
      isplitl [H1]
      · iexists _
        isplitr
        · ipureintro; exact landed_tile m c (slotOf t) (peer c t) f
        iexact H1
      iexact H2)) $$ [Hb Hs Hd]
  · isplitr; · iexact HI
    isplitl [Hb]; · unfold blkAt holds; iexact Hb
    isplitl [Hs]; · unfold holds; iexact Hs
    isplitl [Hd]; · iexact Hd
    iexact Hre
  iintro Hc
  iapply h
  unfold St; dsimp only
  ihave Htile := Htile $$ [Hc]
  · rw [tileSt_fly m c (t + 1) lw (peer c t) (by rw [trip_peer c ht]; exact hlw) (by rw [trip_peer c ht]; exact Nat.lt_succ_self t), trip_peer c ht]
    iexact Hc
  ihave Hslot := Hslot $$ [Hat]
  · rw [slotSt_fly m c _ _ _ (Nat.succ_ne_self _)]
    iframe # ∗
  iframe # ∗

/-- Trip `t`'s tile is waited for. -/
theorem step_take (t : ℕ) (ht : t < 16) {w : TpuEff nD τ sig (Elt F) Λ₀ .tc PUnit}
    (hw : ∃ sem k', (∀ Kt : PUnit → sProp 𝕄, wpE (defs₀ (F := F)) 𝒱₀ (c : Thread nD τ) none Set.univ w Kt = waitSpec (c : Thread nD τ) Set.univ (.dma sem) k' Kt)
      ∧ sem = loadSem (slotOf t) ∧ k' = Nw)
    (hlw : lw = t) (hli : t < li) (hli' : li ≤ t + 6)
    (h : St m c K ⟨bar, sg, xs, li, t + 1, tr, ow, rv, sw⟩ ⊢ WP c (k ⟨⟩) Q) :
    St m c K ⟨bar, sg, xs, li, lw, tr, ow, rv, sw⟩ ⊢ WP c (.op w k) Q := by
  obtain ⟨sem, k', hw, rfl, rfl⟩ := hw
  unfold St; dsimp only; rw [hlw]
  iintro ⟨#Hrec, #Hlev, Hbar, Hrow, Hx, Htile, Hslot, Htrip, ⟨%W, HO⟩⟩
  ihave Htile := (tile_take m c li t ht) $$ Htile
  icases Htile with ⟨Hc, Htile⟩
  ihave Hc := (Entails.of_eq ((tileSt_fly m c li t (peer c t) (by rw [trip_peer c ht]) (by rw [trip_peer c ht]; exact hli)).trans (by rw [trip_peer c ht]))) $$ Hc
  ihave Hslot := (slot_take m c li t) $$ Hslot
  icases Hslot with ⟨Hs, Hslot⟩
  have ec : cnt li (slotOf t) = t / 6 + 1 := by show (li + 5 - t % 6) / 6 = t / 6 + 1; omega
  have et : (slotOf t).val + 6 * (t / 6) = t := Nat.mod_add_div t 6
  rw [cnt_at, cnt_at_succ, ec]
  ihave Hs := (Entails.of_eq (slotSt_fly m c _ _ _ (Nat.succ_ne_self _))) $$ Hs
  icases Hs with ⟨Hat, -, -⟩
  iapply (wait_cell m K c (kLoad (slotOf t)) (t / 6) (by show (slotOf t).val + 6 * (t / 6) < 16; omega) hw rfl (debt c sg tr) W) $$ [Hat Hc HO]
  · isplitr; · iexact Hrec
    isplitl [Hc]; · iexact Hc
    isplitl [HO]; · iexact HO
    isplitr; · iapply (mayWait_low c (kLoad (slotOf t)) rfl); iexact Hlev
    iexact Hat
  iintro ⟨Ho, Hat, #Hre, Hp⟩
  ihave Hp := (Entails.of_eq (show pay m c (kLoad (slotOf t)) (t / 6) = iprop(slotTile m c (slotOf t) (peer c t) ∗ blkAt m c (peer c t)) by
    show iprop(slotTile m c (slotOf t) (peer c ((slotOf t).val + 6 * (t / 6))) ∗ blkAt m c (peer c ((slotOf t).val + 6 * (t / 6)))) = _
    rw [et])) $$ Hp
  icases Hp with ⟨Hp, Hb⟩
  iapply h
  unfold St; dsimp only
  ihave Htile := Htile $$ [Hb]
  · rw [tileSt_back m c li (t + 1) (peer c t) (by rw [trip_peer c ht]; exact Nat.lt_succ_self t)]; iexact Hb
  ihave Hslot := Hslot $$ [Hat Hp]
  · rw [slotSt_full, et]; iframe # ∗
  iframe # ∗

/-- Trip `t`'s tile is read from its slot. -/
theorem step_read (t : ℕ) (ht : t < 16) {off : Fin 3 → ℕ} {inb} {hl} {k' : Vec F S1x4096x128 .f32 → Prog (TpuEff nD τ sig (Elt F) Λ₀ .tc) α}
    (ho : off = ![(slotOf t).val, 0, 0]) (hlw : lw = t + 1) (hli : t < li) (hli' : li ≤ t + 6)
    (h : St m c K ⟨bar, sg, xs, li, lw, tr, ow, rv, sw⟩ ⊢ WP c (k' (tileAt m c (peer c t))) Q) :
    St m c K ⟨bar, sg, xs, li, lw, tr, ow, rv, sw⟩ ⊢ WP c (.op (.load wM (Rect.unit (s := S6x4096x128) off S1x4096x128.size inb).toLoadRect hl) k') Q := by
  subst ho
  have ec : cnt li (slotOf t) = t / 6 + 1 := by show (li + 5 - t % 6) / 6 = t / 6 + 1; omega
  have et : (slotOf t).val + 6 * (t / 6) = t := Nat.mod_add_div t 6
  unfold St at h ⊢; dsimp only at h ⊢; rw [hlw] at h ⊢
  iintro ⟨#Hrec, #Hlev, Hbar, Hrow, Hx, Htile, Hslot, Htrip, Ho⟩
  ihave Hslot := (bigSep_univ_update (Φ := fun s => slotSt m c (cnt li s) (cnt (t + 1) s) s) (Ψ := fun s => slotSt m c (cnt li s) (cnt (t + 1) s) s) (slotOf t)
    (fun _ _ => rfl)) $$ Hslot
  icases Hslot with ⟨Hs, Hslot⟩
  ihave Hs := (Entails.of_eq (show slotSt m c (cnt li (slotOf t)) (cnt (t + 1) (slotOf t)) (slotOf t) = _ by rw [ec, cnt_at_succ, slotSt_full, et])) $$ Hs
  icases Hs with ⟨Hat, Hre, Hs⟩
  unfold slotTile
  icases Hs with ⟨%f, %hf, Hs⟩
  iapply (wp_load 𝒱₀ (c : Thread nD τ) none Set.univ (m := wM) (S := (wSlot (slotOf t)).view.set) (f := f)
    (by rw [set_wSlot, View.set_slice]; exact subset_rfl)) $$ [Hs]
  · unfold holds; iexact Hs
  iintro Hs
  rw [hf]
  iapply h
  ihave Hslot := Hslot $$ [Hat Hre Hs]
  · iapply (Entails.of_eq (show slotSt m c (cnt li (slotOf t)) (cnt (t + 1) (slotOf t)) (slotOf t) = _ by rw [ec, cnt_at_succ, slotSt_full, et]).symm)
    isplitl [Hat]; · iexact Hat
    isplitl [Hre]; · iexact Hre
    unfold slotTile; iexists f
    isplitr; · ipureintro; exact hf
    unfold holds; iexact Hs
  iframe # ∗

/-! ## Trips -/

/-- The program reads a send slot before it stores there, and does not use what it read. -/
theorem step_deadBuf (t : ℕ) (ht : t < 15) {off : Fin 3 → ℕ} {inb} {hl} {k' : Vec F S1x256x128 .bf16 → Prog (TpuEff nD τ sig (Elt F) Λ₀ .tc) α}
    (ho : off = ![(peer c t).val, 0, 0]) (htr : tr = 3 * t) (hsw : sw = 0)
    (h : ∀ v, St m c K ⟨bar, sg, xs, li, lw, tr, ow, rv, sw⟩ ⊢ WP c (k' v) Q) :
    St m c K ⟨bar, sg, xs, li, lw, tr, ow, rv, sw⟩ ⊢ WP c (.op (.load sM (Rect.unit (s := S16x256x128) off S1x256x128.size inb).toLoadRect hl) k') Q := by
  subst ho
  have es : tripSt m c (3 * t) 0 (peer c t) = tripAt m c (peer c t) 0 := by
    unfold tripSt stage; rw [trip_peer c (by omega), if_neg (Nat.not_lt_zero _)]; congr 1; omega
  unfold St at h ⊢; dsimp only at h ⊢; rw [htr, hsw] at h ⊢
  iintro ⟨#Hrec, #Hlev, Hbar, Hrow, Hx, Htile, Hslot, Htrip, Ho⟩
  ihave Htrip := (bigSep_univ_update (Φ := fun j => tripSt m c (3 * t) 0 j) (Ψ := fun j => tripSt m c (3 * t) 0 j) (peer c t) (fun _ _ => rfl)) $$ Htrip
  icases Htrip with ⟨Ht, Htrip⟩
  ihave Ht := (Entails.of_eq (es.trans (tripAt_0 m c (peer c t) (peer_ne ht)))) $$ Ht
  unfold bufAny
  icases Ht with ⟨⟨%f, Hb⟩, Ht⟩
  iapply (wp_load 𝒱₀ (c : Thread nD τ) none Set.univ (m := sM) (S := (sBuf (peer c t)).view.set) (f := f)
    (by rw [set_sBuf, View.set_slice]; exact subset_rfl)) $$ [Hb]
  · unfold holds; iexact Hb
  iintro Hb
  iapply (h _)
  ihave Htrip := Htrip $$ [Ht Hb]
  · iapply (Entails.of_eq (es.trans (tripAt_0 m c (peer c t) (peer_ne ht))).symm)
    isplitl [Hb]
    · unfold bufAny; iexists f; unfold holds; iexact Hb
    iexact Ht
  iframe # ∗

/-- Trip `t`'s product is stored in its send slot. -/
theorem step_store (t : ℕ) (ht : t < 15) {off : Fin 3 → ℕ} {inb} {hx} {hm} {v : FVec F S1x256x128 .bf16}
    (ho : off = ![(peer c t).val, 0, 0]) (hv : v = shapeCast S1x256x128 (prodAt m c (peer c t)) shapeCasts_S256x128_S1x256x128)
    (htr : tr = 3 * t) (hsw : sw = 0)
    (h : St m c K ⟨bar, sg, xs, li, lw, 3 * t + 1, ow, rv, sw⟩ ⊢ WP c (k ⟨⟩) Q) :
    St m c K ⟨bar, sg, xs, li, lw, tr, ow, rv, sw⟩ ⊢ WP c (.op (.store sM (Rect.unit (s := S16x256x128) off S1x256x128.size inb) v Finset.univ hx hm) k) Q := by
  subst ho hv
  unfold St; dsimp only; rw [htr, hsw]
  iintro ⟨#Hrec, #Hlev, Hbar, Hrow, Hx, Htile, Hslot, Htrip, Ho⟩
  ihave Htrip := (trip_step m c t 0 ht (by decide)) $$ Htrip
  icases Htrip with ⟨Ht, Htrip⟩
  ihave Ht := (Entails.of_eq (tripAt_0 m c (peer c t) (peer_ne ht))) $$ Ht
  unfold bufAny
  icases Ht with ⟨⟨%f, Hb⟩, Ht⟩
  iapply (wp_store 𝒱₀ (c : Thread nD τ) none Set.univ (m := sM) (r := Rect.unit (s := S16x256x128) ![(peer c t).val, 0, 0] S1x256x128.size inb) (Mk := Finset.univ) (S := (sBuf (peer c t)).view.set) (f := f)
    (by rw [set_sBuf, View.setOn_univ])) $$ [Hb]
  · unfold holds; iexact Hb
  iintro Hb
  iapply h
  unfold St; dsimp only
  ihave Htrip := Htrip $$ [Ht Hb]
  · iapply (Entails.of_eq (tripAt_1 m c (peer c t) (peer_ne ht)).symm)
    isplitl [Hb]
    · unfold bufProd; iexists _
      isplitr
      · ipureintro; exact stored_buf (peer c t) f (prodAt m c (peer c t))
      unfold holds; iexact Hb
    iexact Ht
  rw [show debt c sg (3 * t + 1) = debt c sg (3 * t) from (debt_step c sg t 0 (by decide)).symm, hsw]
  iframe # ∗

/-- Trip `t` waits until its receiver has lent the rows it fills. -/
theorem step_entry (t : ℕ) (ht : t < 15) {sem : Sem sig} {a : Int} (hs : sem = entrySem (peer c t)) (ha : a = ((1 : ℕ) : Int))
    (htr : tr = 3 * t + 1) (hsw : sw = 0) (hsg : sg = 16)
    (h : St m c K ⟨bar, sg, xs, li, lw, 3 * t + 2, ow, rv, sw⟩ ⊢ WP c (k ⟨⟩) Q) :
    St m c K ⟨bar, sg, xs, li, lw, tr, ow, rv, sw⟩ ⊢ WP c (.op (.semWait sem a) k) Q := by
  subst hs ha
  unfold St; dsimp only; rw [htr, hsw]
  iintro ⟨#Hrec, #Hlev, Hbar, Hrow, Hx, Htile, Hslot, Htrip, ⟨%W, HO⟩⟩
  ihave Htrip := (trip_step m c t 1 ht (by decide)) $$ Htrip
  icases Htrip with ⟨Ht, Htrip⟩
  ihave Ht := (Entails.of_eq (tripAt_1 m c (peer c t) (peer_ne ht))) $$ Ht
  icases Ht with ⟨Hb, ⟨Hat, Hc⟩, Ht⟩
  iapply (wait_cell m K c (kEntry (peer c t)) 0 ⟨rfl, peer_ne ht⟩ (wpE_semWait_eq 𝒱₀ (c : Thread nD τ) none Set.univ) rfl (debt c sg (3 * t + 1)) W) $$ [Hat Hc HO]
  · isplitr; · iexact Hrec
    isplitl [Hc]; · iexact Hc
    isplitl [HO]; · iexact HO
    isplitr; · iapply (mayWait_entry c (peer c t) sg (3 * t + 1) hsg.ge); iexact Hlev
    iexact Hat
  iintro ⟨Ho, Hat, -, Hp⟩
  iapply h
  unfold St; dsimp only
  ihave Htrip := Htrip $$ [Hat Hp Hb Ht]
  · iapply (Entails.of_eq (tripAt_2 m c (peer c t) (peer_ne ht)).symm)
    isplitl [Hb]; · iexact Hb
    isplitl [Hat Hp]
    · isplitl [Hat]; · iexact Hat
      iapply (Entails.of_eq (show pay m c (kEntry (peer c t)) 0 = rowAny (peer c t) c from rfl)); iexact Hp
    iexact Ht
  rw [show debt c sg (3 * t + 2) = debt c sg (3 * t + 1) from (debt_step c sg t 1 (by decide)).symm, hsw]
  iframe # ∗

/-- What lands in row block `c` of device `j` is the product sent. -/
theorem landed_row (j : Dev nD) (f : S4096x128.Idx → Elt F .bf16) (v : FVec F S256x128 .bf16) :
    (oRow j).view.read (Elt F) ((oRow j).view.write (Elt F) f v Finset.univ) = v := stored_row j f v

/-- Trip `t`'s product is sent to its receiver. -/
theorem step_send (t : ℕ) (ht : t < 15) {offs : Fin 3 → ℕ} {inbs} {offd : Fin 2 → ℕ} {inbd} {n : Dev nD} {sS sem : SemLoc sig} {hsc hsrc hdst hsem}
    (hos : offs = ![(peer c t).val, 0, 0]) (hod : offd = ![256 * c.val, 0]) (hn : n = peer c t) (hsS : sS = .dma (sendSem (peer c t))) (hs : sem = .dma (recvSem c))
    (htr : tr = 3 * t + 2) (hsw : sw = 0)
    (h : St m c K ⟨bar, sg, xs, li, lw, 3 * t + 3, ow, rv, sw⟩ ⊢ WP c (k ⟨⟩) Q) :
    St m c K ⟨bar, sg, xs, li, lw, tr, ow, rv, sw⟩ ⊢ WP c (.op (.enqueueDma ((sM.slice (Rect.unit (s := S16x256x128) offs S1x256x128.size inbs) (fun _ => rfl)).squeeze S256x128 squeezes_S1x256x128_S256x128)
      (.remote (n : Thread nD τ) (oM.slice (Rect.unit (s := S4096x128) offd S256x128.size inbd) (fun _ => rfl)) sS hsc) sem hsrc hdst hsem) k) Q := by
  subst hos hod hn hsS hs
  unfold St; dsimp only; rw [htr, hsw]
  iintro ⟨#Hrec, #Hlev, Hbar, Hrow, Hx, Htile, Hslot, Htrip, ⟨%W, HO⟩⟩
  ihave Htrip := (trip_step m c t 2 ht (by decide)) $$ Htrip
  icases Htrip with ⟨Ht, Htrip⟩
  ihave Ht := (Entails.of_eq (tripAt_2 m c (peer c t) (peer_ne ht))) $$ Ht
  unfold bufProd rowAny
  icases Ht with ⟨⟨%f, %hf, Hb⟩, ⟨Hat, ⟨%g, Hr⟩⟩, Has, Ht1, Ht2⟩
  ihave Hi := (records_at m K c (kSend (peer c t))) $$ Hrec
  icases Hi with ⟨#HI1, #Hre1⟩
  ihave Hi := (records_at m K (peer c t) (kRecv c)) $$ Hrec
  icases Hi with ⟨#HI2, #Hre2⟩
  have hcp : c ≠ peer c t := Ne.symm (peer_ne ht)
  iapply (Rounds.wp_send_pointsTo 𝒱₀ ER (Rd m) (c : Thread nD τ) none (c' := ((peer c t : Dev nD) : Thread nD τ)) (q := fullShare) (sS := .dma (sendSem (peer c t))) (sem := .dma (recvSem c))
    (κ₁ := K (c, kSend (peer c t))) (κ₂ := K (peer c t, kRecv c)) (r₁ := 0) (r₂ := 0) (d₁ := ()) (d₂ := ())
    (src := sBuf (peer c t)) (dst := oRow c) (fs := f) (fd := g)
    (mem_duties m c (kSend (peer c t)) 0 ⟨rfl, peer_ne ht⟩) (mem_duties m (peer c t) (kRecv c) 0 ⟨rfl, hcp⟩) () () Np rfl
    (amount_eq m c (kSend (peer c t)) 0 ()) (amount_eq m (peer c t) (kRecv c) 0 ())
    (debt c sg (3 * t + 3)) (debt_send c (peer c t) (peer_ne ht) sg t (trip_peer c (by omega)))
    (by
      rw [show (Rd m).payload ((c : Thread nD τ), .dma (sendSem (peer c t))) 0 () = bufAny c (peer c t) from payload_eq m c (kSend (peer c t)) 0 ()]
      unfold bufAny holds
      iintro H
      iexists f; iexact H)
    (by
      rw [show (Rd m).payload (((peer c t : Dev nD) : Thread nD τ), .dma (recvSem c)) 0 () = rowProd m (peer c t) c from payload_eq m (peer c t) (kRecv c) 0 ()]
      unfold rowProd holds
      iintro H
      iexists _
      isplitr
      · ipureintro; exact (landed_row c g _).trans hf
      iexact H)) $$ [Hb Hr HO Ht1 Ht2]
  · isplitr; · iexact HI1
    isplitr; · iexact HI2
    isplitl [Hb]; · unfold holds; iexact Hb
    isplitl [Hr]; · unfold holds; iexact Hr
    isplitl [HO]; · iexact HO
    isplitl [Ht1]; · iexact Ht1
    isplitr; · iexact Hre1
    isplitl [Ht2]; · iexact Ht2
    iexact Hre2
  iintro ⟨Hc, HO⟩
  iapply h
  unfold St; dsimp only
  ihave Htrip := Htrip $$ [Hat Has Hc]
  · iapply (Entails.of_eq (tripAt_3 m c (peer c t) (peer_ne ht)).symm)
    isplitl [Hat]; · iexact Hat
    isplitl [Has]; · iexact Has
    iexact Hc
  rw [hsw]
  iframe # ∗
  iexists W; iexact HO

/-! ## The device's own rows -/

theorem step_deadRow {off : Fin 2 → ℕ} {inb} {hl} {k' : Vec F S256x128 .bf16 → Prog (TpuEff nD τ sig (Elt F) Λ₀ .tc) α}
    (ho : off = ![256 * c.val, 0]) (how : ow = 0)
    (h : ∀ v, St m c K ⟨bar, sg, xs, li, lw, tr, ow, rv, sw⟩ ⊢ WP c (k' v) Q) :
    St m c K ⟨bar, sg, xs, li, lw, tr, ow, rv, sw⟩ ⊢ WP c (.op (.load oM (Rect.unit (s := S4096x128) off S256x128.size inb).toLoadRect hl) k') Q := by
  subst ho
  unfold St at h ⊢; dsimp only at h ⊢; rw [how] at h ⊢
  iintro ⟨#Hrec, #Hlev, Hbar, Hrow, Hx, Htile, Hslot, Htrip, Ho⟩
  ihave Hrow := (bigSep_univ_update (Φ := fun j => rowSt m c sg 0 rv j) (Ψ := fun j => rowSt m c sg 0 rv j) c (fun _ _ => rfl)) $$ Hrow
  icases Hrow with ⟨Ht, Hrow⟩
  ihave Ht := (Entails.of_eq (rowSt_own0 m c sg rv)) $$ Ht
  unfold rowAny
  icases Ht with ⟨Ht, ⟨%f, Hb⟩⟩
  iapply (wp_load 𝒱₀ (c : Thread nD τ) none Set.univ (m := oM) (S := (oRow c).view.set) (f := f)
    (by rw [show (oRow c).view.set = _ from View.set_slice _ _]; exact subset_rfl)) $$ [Hb]
  · unfold holds; iexact Hb
  iintro Hb
  iapply (h _)
  ihave Hrow := Hrow $$ [Ht Hb]
  · iapply (Entails.of_eq (rowSt_own0 m c sg rv).symm)
    isplitl [Ht]; · iexact Ht
    unfold rowAny; iexists f; unfold holds; iexact Hb
  iframe # ∗

theorem step_own {off : Fin 2 → ℕ} {inb} {hx} {hm} {v : FVec F S256x128 .bf16}
    (ho : off = ![256 * c.val, 0]) (hv : v = prodAt m c c) (how : ow = 0)
    (h : St m c K ⟨bar, sg, xs, li, lw, tr, 1, rv, sw⟩ ⊢ WP c (k ⟨⟩) Q) :
    St m c K ⟨bar, sg, xs, li, lw, tr, ow, rv, sw⟩ ⊢ WP c (.op (.store oM (Rect.unit (s := S4096x128) off S256x128.size inb) v Finset.univ hx hm) k) Q := by
  subst ho hv
  unfold St; dsimp only; rw [how]
  iintro ⟨#Hrec, #Hlev, Hbar, Hrow, Hx, Htile, Hslot, Htrip, Ho⟩
  ihave Hrow := (row_own m c sg rv) $$ Hrow
  icases Hrow with ⟨Ht, Hrow⟩
  ihave Ht := (Entails.of_eq (rowSt_own0 m c sg rv)) $$ Ht
  unfold rowAny
  icases Ht with ⟨Ht, ⟨%f, Hb⟩⟩
  iapply (wp_store 𝒱₀ (c : Thread nD τ) none Set.univ (m := oM) (r := Rect.unit (s := S4096x128) ![256 * c.val, 0] S256x128.size inb) (Mk := Finset.univ) (S := (oRow c).view.set) (f := f)
    (by rw [View.setOn_univ])) $$ [Hb]
  · unfold holds; iexact Hb
  iintro Hb
  iapply h
  unfold St; dsimp only
  ihave Hrow := Hrow $$ [Ht Hb]
  · iapply (Entails.of_eq (rowSt_own1 m c sg rv).symm)
    isplitl [Ht]; · iexact Ht
    unfold rowProd; iexists _
    isplitr
    · ipureintro; exact stored_row c f (prodAt m c c)
    unfold holds; iexact Hb
  iframe # ∗

/-! ## The last waits -/

/-- The wait for device `n`'s product, skipped when `n` is the device itself. -/
theorem step_recv (n : Dev nD) {cond : BitVec 1} {w : cond = 1#1 → TpuEff nD τ sig (Elt F) Λ₀ .tc PUnit}
    {rest : Prog (TpuEff nD τ sig (Elt F) Λ₀ .tc) α}
    (hc : cond = 1#1 ↔ n ≠ c)
    (hw : ∀ h, ∃ sem k', (∀ Kt : PUnit → sProp 𝕄, wpE (defs₀ (F := F)) 𝒱₀ (c : Thread nD τ) none Set.univ (w h) Kt = waitSpec (c : Thread nD τ) Set.univ (.dma sem) k' Kt)
      ∧ sem = recvSem n ∧ k' = Np)
    (hrv : rv = n.val) (hsg : sg = 16) (htr : tr = 45) (h : St m c K ⟨bar, sg, xs, li, lw, tr, ow, n.val + 1, sw⟩ ⊢ WP c rest Q) :
    St m c K ⟨bar, sg, xs, li, lw, tr, ow, rv, sw⟩ ⊢ WP c (if hh : cond = 1#1 then .op (w hh) (fun _ => rest) else rest) Q := by
  by_cases hn : n = c
  · subst hn
    rw [dif_neg (fun h' => (hc.1 h') rfl)]
    refine BIBase.Entails.trans ?_ h
    unfold St; dsimp only; rw [hrv, row_recv_self]
  · have hh := hc.2 hn
    obtain ⟨sem, k', hw, rfl, rfl⟩ := hw hh
    rw [dif_pos hh]
    have hnlt : n.val < 16 := n.isLt
    unfold St; dsimp only; rw [hrv]
    iintro ⟨#Hrec, #Hlev, Hbar, Hrow, Hx, Htile, Hslot, Htrip, ⟨%W, HO⟩⟩
    ihave Hrow := (row_recv m c sg ow n.val n rfl) $$ Hrow
    icases Hrow with ⟨Hn, Hrow⟩
    ihave Hn := (Entails.of_eq (rowSt_lent m c sg ow n.val n hn (by rw [hsg]; exact hnlt) (Nat.lt_irrefl _))) $$ Hn
    icases Hn with ⟨Hat, Hc, -⟩
    iapply (wait_cell m K c (kRecv n) 0 ⟨rfl, hn⟩ hw rfl (debt c sg tr) W) $$ [Hat Hc HO]
    · isplitr; · iexact Hrec
      isplitl [Hc]; · iexact Hc
      isplitl [HO]; · iexact HO
      isplitr
      · rw [debt_zero c sg tr hsg.ge htr.ge, MayWait_zero]; iempintro
      iexact Hat
    iintro ⟨Ho, Hat, -, Hp⟩
    iapply h
    unfold St; dsimp only
    ihave Hrow := Hrow $$ [Hat Hp]
    · iapply (Entails.of_eq (rowSt_back m c sg ow (n.val + 1) n hn (Nat.lt_succ_self _)).symm)
      isplitl [Hat]; · iexact Hat
      iapply (Entails.of_eq (show pay m c (kRecv n) 0 = rowProd m c n from rfl)); iexact Hp
    iframe # ∗

/-- The wait for trip `t`'s send. -/
theorem step_sent (t : ℕ) (ht : t < 15) {w : TpuEff nD τ sig (Elt F) Λ₀ .tc PUnit}
    (hw : ∃ sem k', (∀ Kt : PUnit → sProp 𝕄, wpE (defs₀ (F := F)) 𝒱₀ (c : Thread nD τ) none Set.univ w Kt = waitSpec (c : Thread nD τ) Set.univ (.dma sem) k' Kt)
      ∧ sem = sendSem (peer c t) ∧ k' = Np)
    (hsw : sw = t) (htr : tr = 45)
    (h : St m c K ⟨bar, sg, xs, li, lw, tr, ow, rv, t + 1⟩ ⊢ WP c (k ⟨⟩) Q) :
    St m c K ⟨bar, sg, xs, li, lw, tr, ow, rv, sw⟩ ⊢ WP c (.op w k) Q := by
  obtain ⟨sem, k', hw, rfl, rfl⟩ := hw
  unfold St; dsimp only; rw [hsw]
  iintro ⟨#Hrec, #Hlev, Hbar, Hrow, Hx, Htile, Hslot, Htrip, ⟨%W, HO⟩⟩
  ihave Htrip := (trip_wait m c tr t ht (by omega)) $$ Htrip
  icases Htrip with ⟨Ht, Htrip⟩
  ihave Ht := (Entails.of_eq (tripAt_3 m c (peer c t) (peer_ne ht))) $$ Ht
  icases Ht with ⟨Hae, Hat, Hc⟩
  iapply (wait_cell m K c (kSend (peer c t)) 0 ⟨rfl, peer_ne ht⟩ hw rfl (debt c sg tr) W) $$ [Hat Hc HO]
  · isplitr; · iexact Hrec
    isplitl [Hc]; · iexact Hc
    isplitl [HO]; · iexact HO
    isplitr; · iapply (mayWait_low c (kSend (peer c t)) rfl); iexact Hlev
    iexact Hat
  iintro ⟨Ho, Hat, -, Hp⟩
  iapply h
  unfold St; dsimp only
  ihave Htrip := Htrip $$ [Hat Hp Hae]
  · iapply (Entails.of_eq (tripAt_4 m c (peer c t) (peer_ne ht)).symm)
    isplitl [Hp]
    · iapply (Entails.of_eq (show pay m c (kSend (peer c t)) 0 = bufAny c (peer c t) from rfl)); iexact Hp
    isplitl [Hae]; · iexact Hae
    iexact Hat
  iframe # ∗

end Cert.A2A
end
-- ==== Proof.Trips.lean ====
/-
# The steps of one trip, of one receive and of one wait for a send, at the program's own operands
-/
module

public import proofs.«01_k».proof.Proof.Moves

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable {K : Dev nD × Cx → ℕ} {c : Dev nD}
variable {α : Type} {k : PUnit → Prog (TpuEff nD τ sig (Elt F) Λ₀ .tc) α} {Q : α → sProp (MT nD τ sig Unit (Elt F) ℕ UU ℕ)} {bar sg xs li lw tr ow rv sw : ℕ}

/-- A function of the kernel's operands and semaphores, at the kernel's own. -/
abbrev atOps {β : Type 1}
    (f : (a0 : Memref sig .tc .hbm S256x4096 .f32) → a0.IsWhole → (a1 : Memref sig .tc .hbm S4096x2048 .f32) → a1.IsWhole
      → (a2 : Memref sig .tc .vmem S4096x128 .bf16) → a2.IsWhole → (a3 : Memref sig .tc .vmem S256x4096 .f32) → a3.IsWhole
      → (a4 : Memref sig .tc .vmem S6x4096x128 .f32) → a4.IsWhole → (a5 : Memref sig .tc .vmem S16x256x128 .bf16) → a5.IsWhole
      → DmaSems sig S_ → DmaSems sig S6 → DmaSems sig S16 → DmaSems sig S16 → Sems sig S16 → β) : β :=
  f xA (Memref.isWhole_whole _) wA (Memref.isWhole_whole _) oM (Memref.isWhole_whole _) xM (Memref.isWhole_whole _) wM (Memref.isWhole_whole _)
    sM (Memref.isWhole_whole _) cc0_scratch3 cc0_scratch4 cc0_scratch5 cc0_scratch6 cc0_scratch7

/-- The start of the load of trip `t`'s tile of `w` into its slot. -/
theorem issue (t : Fin 16) {inbs offd inbd offm inbm hsrc hdst hsem} (hd : offd = ![(slotOf t).val, 0, 0]) (hm : offm = ![(slotOf t).val])
    (hp : li = t.val ∧ lw ≤ t.val ∧ t.val < lw + 6) (h : St m c K ⟨bar, sg, xs, t.val + 1, lw, tr, ow, rv, sw⟩ ⊢ WP c (k ⟨⟩) Q) :
    St m c K ⟨bar, sg, xs, li, lw, tr, ow, rv, sw⟩ ⊢ WP c (.op (.enqueueDma
      (wA.slice (Rect.unit (s := S4096x2048) (k0_off17 c (BitVec.ofNat 32 t.val)) S4096x128.size inbs) (fun _ => rfl))
      (.here ((wM.slice (Rect.unit (s := S6x4096x128) offd S1x4096x128.size inbd) (fun _ => rfl)).squeeze S4096x128 squeezes_S1x4096x128_S4096x128))
      (.dma ((cc0_scratch4.slice (Rect.unit (s := S6) offm S1.size inbm)).squeeze S_ squeezes_S1_S_).sem) hsrc hdst hsem) k) Q :=
  step_issue m K c t.val t.isLt (k0_off17_eq c t) hd (congrArg SemLoc.dma (load_sem (slotOf t) _ _ hm)) hp.1 hp.2.1 hp.2.2 h

/-- The wait for trip `t`'s tile and the read of it: the program goes on with the tile of `w`'s columns for the trip's peer. -/
theorem fetch (t : Fin 16) {src : Memref sig .tc .hbm S4096x128 .f32} {offd inbd offm inbm hsrc hdst off inb hl}
    {k' : Vec F S1x4096x128 .f32 → Prog (TpuEff nD τ sig (Elt F) Λ₀ .tc) α}
    (hm : offm = ![(slotOf t).val]) (ho : off = ![(slotOf t).val, 0, 0])
    (hp : lw = t.val ∧ t.val < li ∧ li ≤ t.val + 6) (h : St m c K ⟨bar, sg, xs, li, t.val + 1, tr, ow, rv, sw⟩ ⊢ WP c (k' (tileAt m c (peer c t))) Q) :
    St m c K ⟨bar, sg, xs, li, lw, tr, ow, rv, sw⟩ ⊢ WP c (.op (.waitDma2
      ((cc0_scratch4.slice (Rect.unit (s := S6) offm S1.size inbm)).squeeze S_ squeezes_S1_S_).sem src
      ((wM.slice (Rect.unit (s := S6x4096x128) offd S1x4096x128.size inbd) (fun _ => rfl)).squeeze S4096x128 squeezes_S1x4096x128_S4096x128) hsrc hdst)
      fun _ => .op (.load wM (Rect.unit (s := S6x4096x128) off S1x4096x128.size inb).toLoadRect hl) k') Q :=
  step_take m K c t.val t.isLt (waits (load_sem (slotOf t) _ _ hm) rfl) hp.1 hp.2.1 hp.2.2
    (step_read m K c t.val t.isLt ho rfl hp.2.1 hp.2.2 h)

/-- The product of trip `t` goes into its send slot, and the device waits until the trip's peer has handed over its rows. -/
theorem pack (t : Fin 15) {inb hl inb' hx hm inbe} {v : FVec F S1x256x128 .bf16}
    (hv : v = shapeCast S1x256x128 (prodAt m c (peer c t)) shapeCasts_S256x128_S1x256x128)
    (hp : tr = 3 * t.val ∧ sw = 0 ∧ sg = 16) (h : St m c K ⟨bar, sg, xs, li, lw, 3 * t.val + 2, ow, rv, sw⟩ ⊢ WP c (k ⟨⟩) Q) :
    St m c K ⟨bar, sg, xs, li, lw, tr, ow, rv, sw⟩ ⊢ WP c (.op
      (.load sM (Rect.unit (s := S16x256x128) (k0_off18 c (BitVec.ofNat 32 t.val)) S1x256x128.size inb).toLoadRect hl) fun _ => .op
      (.store sM (Rect.unit (s := S16x256x128) (k0_off18 c (BitVec.ofNat 32 t.val)) S1x256x128.size inb') v Finset.univ hx hm) fun _ => .op
      (.semWait ((cc0_scratch7.slice (Rect.unit (s := S16) (k0_off19 c (BitVec.ofNat 32 t.val)) S1.size inbe)).squeeze S_ squeezes_S1_S_).sem (1#32 : BitVec 32).toInt) k) Q :=
  step_deadBuf m K c t.val t.isLt (k0_off18_eq c t) hp.1 hp.2.1 fun _ =>
    step_store m K c t.val t.isLt (k0_off18_eq c t) hv hp.1 hp.2.1
      (step_entry m K c t.val t.isLt (entry_sem (peer c t) _ _ (k0_off19_eq c t)) rfl rfl hp.2.1 hp.2.2 h)

/-- The send of trip `t`'s product to the trip's peer. -/
theorem post (t : Fin 15) {n : Dev nD} {inbs inbd inbm inbr hsc hsrc hdst hsem} (hn : n = peer c t)
    (hp : tr = 3 * t.val + 2 ∧ sw = 0) (h : St m c K ⟨bar, sg, xs, li, lw, 3 * t.val + 3, ow, rv, sw⟩ ⊢ WP c (k ⟨⟩) Q) :
    St m c K ⟨bar, sg, xs, li, lw, tr, ow, rv, sw⟩ ⊢ WP c (.op (.enqueueDma
      ((sM.slice (Rect.unit (s := S16x256x128) (k0_off22 c (BitVec.ofNat 32 t.val)) S1x256x128.size inbs) (fun _ => rfl)).squeeze S256x128 squeezes_S1x256x128_S256x128)
      (.remote (n : Thread nD τ) (oM.slice (Rect.unit (s := S4096x128) (k0_off21 c) S256x128.size inbd) (fun _ => rfl))
        (.dma ((cc0_scratch5.slice (Rect.unit (s := S16) (k0_off19 c (BitVec.ofNat 32 t.val)) S1.size inbm)).squeeze S_ squeezes_S1_S_).sem) hsc)
      (.dma ((cc0_scratch6.slice (Rect.unit (s := S16) (k0_off20 c) S1.size inbr)).squeeze S_ squeezes_S1_S_).sem) hsrc hdst hsem) k) Q :=
  step_send m K c t.val t.isLt (k0_off22_eq c t) (k0_off21_eq c) hn (congrArg SemLoc.dma (send_sem (peer c t) _ _ (k0_off19_eq c t)))
    (congrArg SemLoc.dma (recv_sem c _ _ (k0_off20_eq c))) hp.1 hp.2 h

/-- A device tests by its own position whether a receive is due from device `i`. -/
theorem due_iff : ∀ c i : Dev nD,
    Scalar.cmpi .ne (Scalar.extui (Scalar.cmpi .ne (myPos c) (BitVec.ofNat 32 i.val)) : BitVec 32) 0#32 = 1#1 ↔ i ≠ c := by decide +kernel

/-- The receive from device `i`, skipped where `i` is the device itself. -/
theorem receive (i : Dev nD) {src : Memref sig .tc .vmem S256x128 .bf16} {offm inbm offd inbd hsrc hdst}
    {rest : Prog (TpuEff nD τ sig (Elt F) Λ₀ .tc) α} (hm : offm = ![i.val])
    (hp : rv = i.val ∧ sg = 16 ∧ tr = 45) (h : St m c K ⟨bar, sg, xs, li, lw, tr, ow, i.val + 1, sw⟩ ⊢ WP c rest Q) :
    St m c K ⟨bar, sg, xs, li, lw, tr, ow, rv, sw⟩ ⊢ WP c
      (if hh : Scalar.cmpi .ne (Scalar.extui (Scalar.cmpi .ne (myPos c) (BitVec.ofNat 32 i.val)) : BitVec 32) 0#32 = 1#1 then
        .op (.waitDma2 ((cc0_scratch6.slice (Rect.unit (s := S16) offm S1.size inbm)).squeeze S_ squeezes_S1_S_).sem src
          (oM.slice (Rect.unit (s := S4096x128) offd S256x128.size inbd) (fun _ => rfl)) hsrc hdst) (fun _ => rest)
      else rest) Q :=
  step_recv m K c i (due_iff c i) (fun _ => waits (recv_sem i _ _ hm) rfl) hp.1 hp.2.1 hp.2.2 h

/-- The wait until trip `t`'s send slot has been read. -/
theorem settle (t : Fin 15) {src : Memref sig .tc .vmem S256x128 .bf16} {inbm off inb hsrc hdst}
    (hp : sw = t.val ∧ tr = 45) (h : St m c K ⟨bar, sg, xs, li, lw, tr, ow, rv, t.val + 1⟩ ⊢ WP c (k ⟨⟩) Q) :
    St m c K ⟨bar, sg, xs, li, lw, tr, ow, rv, sw⟩ ⊢ WP c (.op (.waitDma2
      ((cc0_scratch5.slice (Rect.unit (s := S16) (k0_off19 c (BitVec.ofNat 32 t.val)) S1.size inbm)).squeeze S_ squeezes_S1_S_).sem src
      ((sM.slice (Rect.unit (s := S16x256x128) off S1x256x128.size inb) (fun _ => rfl)).squeeze S256x128 squeezes_S1x256x128_S256x128) hsrc hdst) k) Q :=
  step_sent m K c t.val t.isLt (waits (send_sem (peer c t) _ _ (k0_off19_eq c t)) sent_credit) hp.1 hp.2 h

end Cert.A2A
end
-- ==== Proof.Body1.lean ====
/-
# The body up to the last send

Each stretch of the body takes what a device holds from one stage of its progress to the next.
-/
module

public import proofs.«01_k».proof.Proof.Trips

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cx → ℕ) (c : Dev nD)

/-! ## Signals to every device, and the first loads -/

set_option maxHeartbeats 1000000 in
/-- The barrier, and the signals to devices 0 to 7. -/
theorem part1 {Q : (Σ' (_ : Dev nD), BitVec 32) → sProp 𝕄} (h : St m c K ⟨2, 8, 0, 0, 0, 0, 0, 0, 0⟩ ⊢ Q ⟨c, myPos c⟩) :
    St m c K ⟨0, 0, 0, 0, 0, 0, 0, 0, 0⟩ ⊢ WP c (atOps k0_part1) Q := by
  simp only [atOps, k0_part1_eq_skeleton]; unfold k0_part1_skel
  simp -zeta -zetaHave only [semSignalWord, semSignalHereWord, semWaitWord, Prog.lift, Prog.bind_op, Prog.bind_ret, Prog.pure_eq_ret]
  refine step_dev c (step_dev c (step_barSignal m K c rfl rfl rfl rfl (step_barWait m K c rfl rfl rfl ?_)))
  extract_lets
  refine step_sig m K c 0 (by clear h; revert c; decide) (fun _ => Fin.ext k0_dev1_eq) (fun _ => entry_sem c _ _ (k0_off1_eq c)) rfl rfl rfl ?_
  refine step_sig m K c 1 (by clear h; revert c; decide) (fun _ => Fin.ext k0_dev2_eq) (fun _ => entry_sem c _ _ (k0_off2_eq c)) rfl rfl rfl ?_
  refine step_sig m K c 2 (by clear h; revert c; decide) (fun _ => Fin.ext k0_dev3_eq) (fun _ => entry_sem c _ _ (k0_off3_eq c)) rfl rfl rfl ?_
  refine step_sig m K c 3 (by clear h; revert c; decide) (fun _ => Fin.ext k0_dev4_eq) (fun _ => entry_sem c _ _ (k0_off4_eq c)) rfl rfl rfl ?_
  refine step_sig m K c 4 (by clear h; revert c; decide) (fun _ => Fin.ext k0_dev5_eq) (fun _ => entry_sem c _ _ (k0_off5_eq c)) rfl rfl rfl ?_
  refine step_sig m K c 5 (by clear h; revert c; decide) (fun _ => Fin.ext k0_dev6_eq) (fun _ => entry_sem c _ _ (k0_off6_eq c)) rfl rfl rfl ?_
  refine step_sig m K c 6 (by clear h; revert c; decide) (fun _ => Fin.ext k0_dev7_eq) (fun _ => entry_sem c _ _ (k0_off7_eq c)) rfl rfl rfl ?_
  refine step_sig m K c 7 (by clear h; revert c; decide) (fun _ => Fin.ext k0_dev8_eq) (fun _ => entry_sem c _ _ (k0_off8_eq c)) rfl rfl rfl ?_
  exact step_ret c h

set_option maxHeartbeats 1000000 in
/-- The signals to devices 8 to 15, and the start of the load of `x`. -/
theorem part2 {Q : BitVec 32 → sProp 𝕄} (h : ∀ v, St m c K ⟨2, 16, 1, 0, 0, 0, 0, 0, 0⟩ ⊢ Q v) :
    St m c K ⟨2, 8, 0, 0, 0, 0, 0, 0, 0⟩ ⊢ WP c (atOps k0_part2 c (myPos c)) Q := by
  simp only [atOps, k0_part2_eq_skeleton]; unfold k0_part2_skel
  simp -zeta -zetaHave only [semSignalWord, Prog.lift, Prog.bind_op, Prog.bind_ret, Prog.pure_eq_ret]
  extract_lets
  refine step_sig m K c 8 (by clear h; revert c; decide) (fun _ => Fin.ext k0_dev9_eq) (fun _ => entry_sem c _ _ (k0_off9_eq c)) rfl rfl rfl ?_
  refine step_sig m K c 9 (by clear h; revert c; decide) (fun _ => Fin.ext k0_dev10_eq) (fun _ => entry_sem c _ _ (k0_off10_eq c)) rfl rfl rfl ?_
  refine step_sig m K c 10 (by clear h; revert c; decide) (fun _ => Fin.ext k0_dev11_eq) (fun _ => entry_sem c _ _ (k0_off11_eq c)) rfl rfl rfl ?_
  refine step_sig m K c 11 (by clear h; revert c; decide) (fun _ => Fin.ext k0_dev12_eq) (fun _ => entry_sem c _ _ (k0_off12_eq c)) rfl rfl rfl ?_
  refine step_sig m K c 12 (by clear h; revert c; decide) (fun _ => Fin.ext k0_dev13_eq) (fun _ => entry_sem c _ _ (k0_off13_eq c)) rfl rfl rfl ?_
  refine step_sig m K c 13 (by clear h; revert c; decide) (fun _ => Fin.ext k0_dev14_eq) (fun _ => entry_sem c _ _ (k0_off14_eq c)) rfl rfl rfl ?_
  refine step_sig m K c 14 (by clear h; revert c; decide) (fun _ => Fin.ext k0_dev15_eq) (fun _ => entry_sem c _ _ (k0_off15_eq c)) rfl rfl rfl ?_
  refine step_sig m K c 15 (by clear h; revert c; decide) (fun _ => Fin.ext k0_dev16_eq) (fun _ => entry_sem c _ _ (k0_off16_eq c)) rfl rfl rfl ?_
  exact step_xIssue m K c rfl rfl (step_ret c (h _))

theorem part3 {Q : PUnit → sProp 𝕄} (h : St m c K ⟨2, 16, 1, 3, 0, 0, 0, 0, 0⟩ ⊢ Q ⟨⟩) :
    St m c K ⟨2, 16, 1, 0, 0, 0, 0, 0, 0⟩ ⊢ WP c (atOps k0_part3 c (myPos c)) Q := by
  simp only [atOps, k0_part3_eq_skeleton]; unfold k0_part3_skel
  simp only [Prog.lift, Prog.bind_op, Prog.bind_ret, Prog.pure_eq_ret]
  exact issue m 0 rfl rfl (by decide) (issue m 1 rfl rfl (by decide) (issue m 2 rfl rfl (by decide) (step_ret c h)))

theorem part4 {Q : FVec F S256x4096 .bf16 → sProp 𝕄} (h : St m c K ⟨2, 16, 2, 6, 0, 0, 0, 0, 0⟩ ⊢ Q (k0_pay1 (xAt m c))) :
    St m c K ⟨2, 16, 1, 3, 0, 0, 0, 0, 0⟩ ⊢ WP c (atOps k0_part4 c (myPos c)) Q := by
  simp only [atOps, k0_part4_eq_skeleton]; unfold k0_part4_skel
  simp only [Prog.lift, Prog.bind_op, Prog.bind_ret, Prog.pure_eq_ret]
  refine issue m 3 rfl rfl (by decide) (issue m 4 rfl rfl (by decide) ?_)
  refine step_xWait m K c rfl (waits rfl rfl) (step_xLoad m K c rfl (by decide) ?_)
  exact issue m 5 rfl rfl (by decide) (step_ret c h)

/-! ## The trips to the peers -/

/-- Trip 0. -/
theorem part5 {Q : PUnit → sProp 𝕄} (h : St m c K ⟨2, 16, 2, 6, 1, 3, 0, 0, 0⟩ ⊢ Q ⟨⟩) :
    St m c K ⟨2, 16, 2, 6, 0, 0, 0, 0, 0⟩ ⊢ WP c (atOps k0_part5 c (myPos c) (k0_pay1 (xAt m c))) Q := by
  simp only [atOps, k0_part5_eq_skeleton]; unfold k0_part5_skel
  simp only [semWaitWord, Prog.lift, Prog.bind_op, Prog.bind_ret, Prog.pure_eq_ret]
  exact fetch m 0 rfl rfl (by decide) (pack m 0 rfl (by decide) (post m 0 (Fin.ext (k0_dev17_eq c)) (by decide) (step_ret c h)))

theorem part6 {Q : PUnit → sProp 𝕄} (h : St m c K ⟨2, 16, 2, 7, 2, 5, 0, 0, 0⟩ ⊢ Q ⟨⟩) :
    St m c K ⟨2, 16, 2, 6, 1, 3, 0, 0, 0⟩ ⊢ WP c (atOps k0_part6 c (myPos c) (k0_pay1 (xAt m c))) Q := by
  simp only [atOps, k0_part6_eq_skeleton]; unfold k0_part6_skel
  simp only [semWaitWord, Prog.lift, Prog.bind_op, Prog.bind_ret, Prog.pure_eq_ret]
  exact issue m 6 rfl rfl (by decide) (fetch m 1 rfl rfl (by decide) (pack m 1 rfl (by decide) (step_ret c h)))

theorem part7 {Q : (Σ' (_ : BitVec 32), FVec F S4096x128 .f32) → sProp 𝕄}
    (h : ∀ v, St m c K ⟨2, 16, 2, 8, 3, 6, 0, 0, 0⟩ ⊢ Q ⟨v, k0_pay4 (tileAt m c (peer c 2))⟩) :
    St m c K ⟨2, 16, 2, 7, 2, 5, 0, 0, 0⟩ ⊢ WP c (atOps k0_part7 c (myPos c)) Q := by
  simp only [atOps, k0_part7_eq_skeleton]; unfold k0_part7_skel
  simp only [Prog.lift, Prog.bind_op, Prog.bind_ret, Prog.pure_eq_ret]
  exact post m 1 (Fin.ext (k0_dev18_eq c)) (by decide) (issue m 7 rfl rfl (by decide) (fetch m 2 rfl rfl (by decide) (step_ret c (h _))))

theorem part8 (v : BitVec 32) {Q : PUnit → sProp 𝕄} (h : St m c K ⟨2, 16, 2, 9, 3, 9, 0, 0, 0⟩ ⊢ Q ⟨⟩) :
    St m c K ⟨2, 16, 2, 8, 3, 6, 0, 0, 0⟩ ⊢ WP c (atOps k0_part8 c (myPos c) (k0_pay1 (xAt m c)) v (k0_pay4 (tileAt m c (peer c 2)))) Q := by
  simp only [atOps, k0_part8_eq_skeleton]; unfold k0_part8_skel
  simp only [semWaitWord, Prog.lift, Prog.bind_op, Prog.bind_ret, Prog.pure_eq_ret]
  exact pack m 2 rfl (by decide) (post m 2 (Fin.ext (k0_dev19_eq c)) (by decide) (issue m 8 rfl rfl (by decide) (step_ret c h)))

/-- Trip 3. -/
theorem part9 {Q : PUnit → sProp 𝕄} (h : St m c K ⟨2, 16, 2, 9, 4, 12, 0, 0, 0⟩ ⊢ Q ⟨⟩) :
    St m c K ⟨2, 16, 2, 9, 3, 9, 0, 0, 0⟩ ⊢ WP c (atOps k0_part9 c (myPos c) (k0_pay1 (xAt m c))) Q := by
  simp only [atOps, k0_part9_eq_skeleton]; unfold k0_part9_skel
  simp only [semWaitWord, Prog.lift, Prog.bind_op, Prog.bind_ret, Prog.pure_eq_ret]
  exact fetch m 3 rfl rfl (by decide) (pack m 3 rfl (by decide) (post m 3 (Fin.ext (k0_dev20_eq c)) (by decide) (step_ret c h)))

theorem part10 {Q : PUnit → sProp 𝕄} (h : St m c K ⟨2, 16, 2, 10, 5, 14, 0, 0, 0⟩ ⊢ Q ⟨⟩) :
    St m c K ⟨2, 16, 2, 9, 4, 12, 0, 0, 0⟩ ⊢ WP c (atOps k0_part10 c (myPos c) (k0_pay1 (xAt m c))) Q := by
  simp only [atOps, k0_part10_eq_skeleton]; unfold k0_part10_skel
  simp only [semWaitWord, Prog.lift, Prog.bind_op, Prog.bind_ret, Prog.pure_eq_ret]
  exact issue m 9 rfl rfl (by decide) (fetch m 4 rfl rfl (by decide) (pack m 4 rfl (by decide) (step_ret c h)))

theorem part11 {Q : (Σ' (_ : BitVec 32), FVec F S4096x128 .f32) → sProp 𝕄}
    (h : ∀ v, St m c K ⟨2, 16, 2, 11, 6, 15, 0, 0, 0⟩ ⊢ Q ⟨v, k0_pay8 (tileAt m c (peer c 5))⟩) :
    St m c K ⟨2, 16, 2, 10, 5, 14, 0, 0, 0⟩ ⊢ WP c (atOps k0_part11 c (myPos c)) Q := by
  simp only [atOps, k0_part11_eq_skeleton]; unfold k0_part11_skel
  simp only [Prog.lift, Prog.bind_op, Prog.bind_ret, Prog.pure_eq_ret]
  exact post m 4 (Fin.ext (k0_dev21_eq c)) (by decide) (issue m 10 rfl rfl (by decide) (fetch m 5 rfl rfl (by decide) (step_ret c (h _))))

theorem part12 (v : BitVec 32) {Q : PUnit → sProp 𝕄} (h : St m c K ⟨2, 16, 2, 12, 6, 18, 0, 0, 0⟩ ⊢ Q ⟨⟩) :
    St m c K ⟨2, 16, 2, 11, 6, 15, 0, 0, 0⟩ ⊢ WP c (atOps k0_part12 c (myPos c) (k0_pay1 (xAt m c)) v (k0_pay8 (tileAt m c (peer c 5)))) Q := by
  simp only [atOps, k0_part12_eq_skeleton]; unfold k0_part12_skel
  simp only [semWaitWord, Prog.lift, Prog.bind_op, Prog.bind_ret, Prog.pure_eq_ret]
  exact pack m 5 rfl (by decide) (post m 5 (Fin.ext (k0_dev22_eq c)) (by decide) (issue m 11 rfl rfl (by decide) (step_ret c h)))

/-- Trip 6. -/
theorem part13 {Q : PUnit → sProp 𝕄} (h : St m c K ⟨2, 16, 2, 12, 7, 21, 0, 0, 0⟩ ⊢ Q ⟨⟩) :
    St m c K ⟨2, 16, 2, 12, 6, 18, 0, 0, 0⟩ ⊢ WP c (atOps k0_part13 c (myPos c) (k0_pay1 (xAt m c))) Q := by
  simp only [atOps, k0_part13_eq_skeleton]; unfold k0_part13_skel
  simp only [semWaitWord, Prog.lift, Prog.bind_op, Prog.bind_ret, Prog.pure_eq_ret]
  exact fetch m 6 rfl rfl (by decide) (pack m 6 rfl (by decide) (post m 6 (Fin.ext (k0_dev23_eq c)) (by decide) (step_ret c h)))

theorem part14 {Q : PUnit → sProp 𝕄} (h : St m c K ⟨2, 16, 2, 13, 8, 23, 0, 0, 0⟩ ⊢ Q ⟨⟩) :
    St m c K ⟨2, 16, 2, 12, 7, 21, 0, 0, 0⟩ ⊢ WP c (atOps k0_part14 c (myPos c) (k0_pay1 (xAt m c))) Q := by
  simp only [atOps, k0_part14_eq_skeleton]; unfold k0_part14_skel
  simp only [semWaitWord, Prog.lift, Prog.bind_op, Prog.bind_ret, Prog.pure_eq_ret]
  exact issue m 12 rfl rfl (by decide) (fetch m 7 rfl rfl (by decide) (pack m 7 rfl (by decide) (step_ret c h)))

theorem part15 {Q : (Σ' (_ : BitVec 32), FVec F S4096x128 .f32) → sProp 𝕄}
    (h : ∀ v, St m c K ⟨2, 16, 2, 14, 9, 24, 0, 0, 0⟩ ⊢ Q ⟨v, k0_pay12 (tileAt m c (peer c 8))⟩) :
    St m c K ⟨2, 16, 2, 13, 8, 23, 0, 0, 0⟩ ⊢ WP c (atOps k0_part15 c (myPos c)) Q := by
  simp only [atOps, k0_part15_eq_skeleton]; unfold k0_part15_skel
  simp only [Prog.lift, Prog.bind_op, Prog.bind_ret, Prog.pure_eq_ret]
  exact post m 7 (Fin.ext (k0_dev24_eq c)) (by decide) (issue m 13 rfl rfl (by decide) (fetch m 8 rfl rfl (by decide) (step_ret c (h _))))

theorem part16 (v : BitVec 32) {Q : PUnit → sProp 𝕄} (h : St m c K ⟨2, 16, 2, 15, 9, 27, 0, 0, 0⟩ ⊢ Q ⟨⟩) :
    St m c K ⟨2, 16, 2, 14, 9, 24, 0, 0, 0⟩ ⊢ WP c (atOps k0_part16 c (myPos c) (k0_pay1 (xAt m c)) v (k0_pay12 (tileAt m c (peer c 8)))) Q := by
  simp only [atOps, k0_part16_eq_skeleton]; unfold k0_part16_skel
  simp only [semWaitWord, Prog.lift, Prog.bind_op, Prog.bind_ret, Prog.pure_eq_ret]
  exact pack m 8 rfl (by decide) (post m 8 (Fin.ext (k0_dev25_eq c)) (by decide) (issue m 14 rfl rfl (by decide) (step_ret c h)))

/-- Trip 9. -/
theorem part17 {Q : PUnit → sProp 𝕄} (h : St m c K ⟨2, 16, 2, 15, 10, 30, 0, 0, 0⟩ ⊢ Q ⟨⟩) :
    St m c K ⟨2, 16, 2, 15, 9, 27, 0, 0, 0⟩ ⊢ WP c (atOps k0_part17 c (myPos c) (k0_pay1 (xAt m c))) Q := by
  simp only [atOps, k0_part17_eq_skeleton]; unfold k0_part17_skel
  simp only [semWaitWord, Prog.lift, Prog.bind_op, Prog.bind_ret, Prog.pure_eq_ret]
  exact fetch m 9 rfl rfl (by decide) (pack m 9 rfl (by decide) (post m 9 (Fin.ext (k0_dev26_eq c)) (by decide) (step_ret c h)))

theorem part18 {Q : PUnit → sProp 𝕄} (h : St m c K ⟨2, 16, 2, 16, 11, 32, 0, 0, 0⟩ ⊢ Q ⟨⟩) :
    St m c K ⟨2, 16, 2, 15, 10, 30, 0, 0, 0⟩ ⊢ WP c (atOps k0_part18 c (myPos c) (k0_pay1 (xAt m c))) Q := by
  simp only [atOps, k0_part18_eq_skeleton]; unfold k0_part18_skel
  simp only [semWaitWord, Prog.lift, Prog.bind_op, Prog.bind_ret, Prog.pure_eq_ret]
  exact issue m 15 rfl rfl (by decide) (fetch m 10 rfl rfl (by decide) (pack m 10 rfl (by decide) (step_ret c h)))

theorem part19 {Q : (Σ' (_ : BitVec 32), BitVec 32) → sProp 𝕄} (h : ∀ v w, St m c K ⟨2, 16, 2, 16, 12, 35, 0, 0, 0⟩ ⊢ Q ⟨v, w⟩) :
    St m c K ⟨2, 16, 2, 16, 11, 32, 0, 0, 0⟩ ⊢ WP c (atOps k0_part19 c (myPos c) (k0_pay1 (xAt m c))) Q := by
  simp only [atOps, k0_part19_eq_skeleton]; unfold k0_part19_skel
  simp only [semWaitWord, Prog.lift, Prog.bind_op, Prog.bind_ret, Prog.pure_eq_ret]
  exact post m 10 (Fin.ext (k0_dev27_eq c)) (by decide) (fetch m 11 rfl rfl (by decide) (pack m 11 rfl (by decide) (step_ret c (h _ _))))

theorem part20 (v w : BitVec 32) {Q : BitVec 32 → sProp 𝕄} (h : ∀ v, St m c K ⟨2, 16, 2, 16, 13, 38, 0, 0, 0⟩ ⊢ Q v) :
    St m c K ⟨2, 16, 2, 16, 12, 35, 0, 0, 0⟩ ⊢ WP c (atOps k0_part20 c (myPos c) (k0_pay1 (xAt m c)) v w) Q := by
  simp only [atOps, k0_part20_eq_skeleton]; unfold k0_part20_skel
  simp only [semWaitWord, Prog.lift, Prog.bind_op, Prog.bind_ret, Prog.pure_eq_ret]
  exact post m 11 (Fin.ext (k0_dev28_eq c)) (by decide) (fetch m 12 rfl rfl (by decide) (pack m 12 rfl (by decide) (step_ret c (h _))))

theorem part21 (v : BitVec 32) {Q : (Σ' (_ : BitVec 32), BitVec 32) → sProp 𝕄} (h : ∀ v w, St m c K ⟨2, 16, 2, 16, 14, 41, 0, 0, 0⟩ ⊢ Q ⟨v, w⟩) :
    St m c K ⟨2, 16, 2, 16, 13, 38, 0, 0, 0⟩ ⊢ WP c (atOps k0_part21 c (myPos c) (k0_pay1 (xAt m c)) v) Q := by
  simp only [atOps, k0_part21_eq_skeleton]; unfold k0_part21_skel
  simp only [semWaitWord, Prog.lift, Prog.bind_op, Prog.bind_ret, Prog.pure_eq_ret]
  exact post m 12 (Fin.ext (k0_dev29_eq c)) (by decide) (fetch m 13 rfl rfl (by decide) (pack m 13 rfl (by decide) (step_ret c (h _ _))))

theorem part22 (v w : BitVec 32) {Q : BitVec 32 → sProp 𝕄} (h : ∀ v, St m c K ⟨2, 16, 2, 16, 15, 44, 0, 0, 0⟩ ⊢ Q v) :
    St m c K ⟨2, 16, 2, 16, 14, 41, 0, 0, 0⟩ ⊢ WP c (atOps k0_part22 c (myPos c) (k0_pay1 (xAt m c)) v w) Q := by
  simp only [atOps, k0_part22_eq_skeleton]; unfold k0_part22_skel
  simp only [semWaitWord, Prog.lift, Prog.bind_op, Prog.bind_ret, Prog.pure_eq_ret]
  exact post m 13 (Fin.ext (k0_dev30_eq c)) (by decide) (fetch m 14 rfl rfl (by decide) (pack m 14 rfl (by decide) (step_ret c (h _))))

end Cert.A2A
end
-- ==== Proof.Body2.lean ====
/-
# The body from the last send on

Each stretch of the body takes what a device holds from one stage of its progress to the next.
-/
module

public import proofs.«01_k».proof.Proof.Body1

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cx → ℕ) (c : Dev nD)

/-! ## The own rows and the receives -/

set_option maxHeartbeats 1000000 in
/-- The last send, the own rows, and the receives from devices 0 and 1. -/
theorem part23 (u v : BitVec 32) {Q : BitVec 32 → sProp 𝕄} (h : St m c K ⟨2, 16, 2, 16, 16, 45, 1, 2, 0⟩ ⊢ Q 2#32) :
    St m c K ⟨2, 16, 2, 16, 15, 44, 0, 0, 0⟩ ⊢ WP c (atOps k0_part23 c (myPos c) u (k0_pay1 (xAt m c)) v) Q := by
  simp only [atOps, k0_part23_eq_skeleton]; unfold k0_part23_skel
  simp -zeta -zetaHave only [Prog.lift, Prog.bind_op, Prog.bind_ret, Prog.pure_eq_ret]
  refine post m 14 (Fin.ext (k0_dev31_eq c)) (by decide) (fetch m 15 rfl rfl (by decide) ?_)
  refine step_deadRow m K c (k0_off23_eq c) rfl fun _ => step_own m K c (k0_off23_eq c) (own_prod m c) rfl ?_
  extract_lets
  exact receive m 0 rfl (by decide) (receive m 1 rfl (by decide) (step_ret c h))

set_option maxHeartbeats 1000000 in
/-- The receives from devices 2 to 11. -/
theorem part24 {Q : BitVec 32 → sProp 𝕄} (h : St m c K ⟨2, 16, 2, 16, 16, 45, 1, 12, 0⟩ ⊢ Q 12#32) :
    St m c K ⟨2, 16, 2, 16, 16, 45, 1, 2, 0⟩ ⊢ WP c (atOps k0_part24 (myPos c) 2#32) Q := by
  simp only [atOps, k0_part24_eq_skeleton]; unfold k0_part24_skel
  simp -zeta -zetaHave only [Prog.lift, Prog.bind_op, Prog.bind_ret, Prog.pure_eq_ret]
  extract_lets
  refine receive m 2 rfl (by decide) (receive m 3 rfl (by decide) (receive m 4 rfl (by decide) (receive m 5 rfl (by decide) ?_)))
  refine receive m 6 rfl (by decide) (receive m 7 rfl (by decide) (receive m 8 rfl (by decide) (receive m 9 rfl (by decide) ?_)))
  exact receive m 10 rfl (by decide) (receive m 11 rfl (by decide) (step_ret c h))

set_option maxHeartbeats 1000000 in
/-- The receives from devices 12 to 15, and the waits for the sends of trips 0 and 1. -/
theorem part25 {Q : (Σ' (_ : BitVec 32), BitVec 32) → sProp 𝕄} (h : ∀ v w, St m c K ⟨2, 16, 2, 16, 16, 45, 1, 16, 2⟩ ⊢ Q ⟨v, w⟩) :
    St m c K ⟨2, 16, 2, 16, 16, 45, 1, 12, 0⟩ ⊢ WP c (atOps k0_part25 c (myPos c) 12#32) Q := by
  simp only [atOps, k0_part25_eq_skeleton]; unfold k0_part25_skel
  simp -zeta -zetaHave only [Prog.lift, Prog.bind_op, Prog.bind_ret, Prog.pure_eq_ret]
  extract_lets
  refine receive m 12 rfl (by decide) (receive m 13 rfl (by decide) (receive m 14 rfl (by decide) (receive m 15 rfl (by decide) ?_)))
  exact settle m 0 (by decide) (settle m 1 (by decide) (step_ret c (h _ _)))

/-! ## The waits for the sends -/

theorem part26 (v w : BitVec 32) {Q : BitVec 32 → sProp 𝕄} (h : ∀ v, St m c K ⟨2, 16, 2, 16, 16, 45, 1, 16, 6⟩ ⊢ Q v) :
    St m c K ⟨2, 16, 2, 16, 16, 45, 1, 16, 2⟩ ⊢ WP c (atOps k0_part26 c (myPos c) v w) Q := by
  simp only [atOps, k0_part26_eq_skeleton]; unfold k0_part26_skel
  simp only [Prog.lift, Prog.bind_op, Prog.bind_ret, Prog.pure_eq_ret]
  exact settle m 2 (by decide) (settle m 3 (by decide) (settle m 4 (by decide) (settle m 5 (by decide) (step_ret c (h _)))))

theorem part27 (v : BitVec 32) {Q : PUnit → sProp 𝕄} (h : St m c K ⟨2, 16, 2, 16, 16, 45, 1, 16, 9⟩ ⊢ Q ⟨⟩) :
    St m c K ⟨2, 16, 2, 16, 16, 45, 1, 16, 6⟩ ⊢ WP c (atOps k0_part27 c (myPos c) v) Q := by
  simp only [atOps, k0_part27_eq_skeleton]; unfold k0_part27_skel
  simp only [Prog.lift, Prog.bind_op, Prog.bind_ret, Prog.pure_eq_ret]
  exact settle m 6 (by decide) (settle m 7 (by decide) (settle m 8 (by decide) (step_ret c h)))

theorem part28 {Q : PUnit → sProp 𝕄} (h : St m c K ⟨2, 16, 2, 16, 16, 45, 1, 16, 13⟩ ⊢ Q ⟨⟩) :
    St m c K ⟨2, 16, 2, 16, 16, 45, 1, 16, 9⟩ ⊢ WP c (atOps k0_part28 c (myPos c)) Q := by
  simp only [atOps, k0_part28_eq_skeleton]; unfold k0_part28_skel
  simp only [Prog.lift, Prog.bind_op, Prog.bind_ret, Prog.pure_eq_ret]
  exact settle m 9 (by decide) (settle m 10 (by decide) (settle m 11 (by decide) (settle m 12 (by decide) (step_ret c h))))

end Cert.A2A
end
-- ==== Proof.Body3.lean ====
/-
# The whole body
-/
module

public import proofs.«01_k».proof.Proof.Body2

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cx → ℕ) (c : Dev nD)

theorem seq_of {α β : Type} {e : Prog (TpuEff nD τ sig (Elt F) Λ₀ .tc) α} {k : α → Prog (TpuEff nD τ sig (Elt F) Λ₀ .tc) β} {P : sProp 𝕄} {Q : β → sProp 𝕄}
    (h : P ⊢ WP c e fun a => WP c (k a) Q) : P ⊢ WP c (e >>= k) Q := by
  unfold WP at h ⊢; rw [wp_bind]; exact h

set_option maxHeartbeats 2000000 in
/-- The body takes what a device holds from nothing done to everything done. -/
theorem body {Q : PUnit → sProp 𝕄} (h : St m c K ⟨2, 16, 2, 16, 16, 45, 1, 16, 15⟩ ⊢ Q ⟨⟩) :
    St m c K ⟨0, 0, 0, 0, 0, 0, 0, 0, 0⟩ ⊢ WP c (atOps cc0_body) Q := by
  simp only [atOps, cc0_body_eq_skeleton]; unfold cc0_body_skel
  refine seq_of c (part1 m K c (seq_of c (part2 m K c fun v52 => seq_of c (part3 m K c (seq_of c (part4 m K c ?_))))))
  refine seq_of c (part5 m K c (seq_of c (part6 m K c (seq_of c (part7 m K c fun v202 => seq_of c (part8 m K c _ ?_))))))
  refine seq_of c (part9 m K c (seq_of c (part10 m K c (seq_of c (part11 m K c fun v325 => seq_of c (part12 m K c _ ?_))))))
  refine seq_of c (part13 m K c (seq_of c (part14 m K c (seq_of c (part15 m K c fun v448 => seq_of c (part16 m K c _ ?_))))))
  refine seq_of c (part17 m K c (seq_of c (part18 m K c (seq_of c (part19 m K c fun v574 w => seq_of c (part20 m K c _ _ fun v606 => ?_))))))
  refine seq_of c (part21 m K c _ fun v626 w => seq_of c (part22 m K c _ _ fun v658 => seq_of c (part23 m K c _ _ (seq_of c (part24 m K c ?_)))))
  refine seq_of c (part25 m K c fun v760 w => seq_of c (part26 m K c _ _ fun v => seq_of c (part27 m K c _ (seq_of c (part28 m K c ?_)))))
  simp only [Prog.lift, Prog.bind_op, Prog.bind_ret, Prog.pure_eq_ret]
  exact settle m 13 (by decide) (settle m 14 (by decide) (step_ret c h))

end Cert.A2A
end
-- ==== Proof.Ends.lean ====
/-
# What the body starts from and what it leaves

`init` puts the state at no progress together from the shares a device is dealt; `fin` takes the state at full progress
apart: every cell closes, with its counter at zero, and every buffer is whole again.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cx → ℕ) (c : Dev nD)

/-! ## Shares -/

/-- A conjunction over the kinds of cell, kind by kind. -/
theorem bigSep_cells (Φ : Cx → sProp 𝕄) :
    bigSep Finset.univ Φ = iprop(Φ kBar ∗ Φ kX ∗ (bigSep Finset.univ fun s => Φ (kLoad s)) ∗ (bigSep Finset.univ fun j => Φ (kSend j))
      ∗ (bigSep Finset.univ fun j => Φ (kRecv j)) ∗ bigSep Finset.univ fun j => Φ (kEntry j)) := by
  rw [BI.bigSep_univ_sum, BI.bigSep_univ_sum, BI.bigSep_univ_sum, BI.bigSep_univ_sum, BI.bigSep_univ_sum,
    show (Finset.univ : Finset Unit) = {()} from rfl, bigSep_singleton, bigSep_singleton]; rfl

/-- The device's place at each of its cells: round 0, nothing taken. -/
def positions : sProp 𝕄 := bigSep Finset.univ fun k : Cx => atPos ER (cell c k) 0 ∅ 0

/-- The tokens of the duties the device pays: its own loads and sends, and its entry and filled row block elsewhere. -/
def payToks : sProp 𝕄 :=
  iprop(dutyTok ER (cell c kBar) 0 () ∗ dutyTok ER (cell c kX) 0 ()
    ∗ (bigSep Finset.univ fun j => dutyTok ER (cell c (kLoad (slotOf (trip c j)))) (trip c j / 6) ())
    ∗ (bigSep Finset.univ fun j => dutyTok ER (cell c (kSend j)) 0 ())
    ∗ (bigSep Finset.univ fun j => dutyTok ER (cell j (kRecv c)) 0 ())
    ∗ bigSep Finset.univ fun j => dutyTok ER (cell j (kEntry c)) 0 ())

/-- The credit for what the other devices owe this one. -/
def credits : sProp 𝕄 :=
  iprop((bigSep Finset.univ fun n => cred (if n ≠ c then tallyAt (cell c (kEntry n)) () 1 else 0))
    ∗ bigSep Finset.univ fun n => cred (if n ≠ c then tallyAt (cell c (kRecv n)) () Np else 0))

/-- The two arrays in device memory, as launched. -/
def arrays : sProp 𝕄 :=
  iprop((((c : Thread nD τ).loc main_arg0) ↦{fullShare} m ((c : Thread nD τ).loc main_arg0))
    ∗ ((c : Thread nD τ).loc main_arg1) ↦{fullShare} m ((c : Thread nD τ).loc main_arg1))

/-- The kernel's three buffers, with anything in them. -/
def buffers : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

theorem holds_xA (f) : (holds c xA f : sProp 𝕄) = (((c : Thread nD τ).loc main_arg0) ↦{fullShare} f) := by
  unfold holds; rw [show xA.view.set = Finset.univ from View.set_whole _]
theorem holds_xM (f) : (holds c xM f : sProp 𝕄) = (((c : Thread nD τ).loc cc0_scratch0) ↦{fullShare} f) := by
  unfold holds; rw [show xM.view.set = Finset.univ from View.set_whole _]

/-! ## The start -/

theorem debt_start : debt c 0 0 = O₀ c := by
  unfold debt O₀ owed
  refine congrArg₂ (· + ·) (Finset.sum_congr rfl fun n _ => ?_) (Finset.sum_congr rfl fun n _ => ?_)
  · simp only [Nat.zero_le, and_true]
  · have : (0 < 3 * trip c n + 3) = True := eq_true (by omega)
    simp only [this, and_true]

theorem row_start (n : Dev nD) :
    iprop(atPos ER (cell c (kRecv n)) 0 ∅ 0 ∗ cred (if n ≠ c then tallyAt (cell c (kRecv n)) () Np else 0) ∗ rowAny c n ∗ dutyTok ER (cell n (kEntry c)) 0 ())
      ⊢ rowSt m c 0 0 0 n := by
  by_cases h : n = c
  · subst h; rw [rowSt_own0]
    iintro ⟨H1, -, H2, -⟩
    isplitl [H1] <;> iassumption
  · rw [rowSt_pre m c 0 0 n h (Nat.not_lt_zero _), if_pos h]

theorem slot_start (s : Fin 6) :
    iprop(records m K ∗ (atPos ER (cell c (kLoad s)) 0 ∅ 0 ∗ slotAny c s)) ⊢ slotSt m c (cnt 0 s) (cnt 0 s) s := by
  rw [show cnt 0 s = 0 from by revert s; decide, slotSt_new]
  iintro ⟨#HR, H1, H2⟩
  ihave ⟨-, Hr⟩ := (records_at m K c (kLoad s)) $$ HR
  isplitl [H1]; · iexact H1
  isplitl [Hr] <;> iassumption

theorem trip_start (j : Dev nD) :
    iprop(bufAny c j ∗ (atPos ER (cell c (kEntry j)) 0 ∅ 0 ∗ cred (if j ≠ c then tallyAt (cell c (kEntry j)) () 1 else 0))
        ∗ atPos ER (cell c (kSend j)) 0 ∅ 0 ∗ dutyTok ER (cell c (kSend j)) 0 () ∗ dutyTok ER (cell j (kRecv c)) 0 ())
      ⊢ tripSt m c 0 0 j := by
  unfold tripSt
  rw [show stage 0 0 (trip c j) = 0 from by unfold stage; rw [if_neg (Nat.not_lt_zero _)]; omega]
  by_cases h : j = c
  · subst h; rw [tripAt_own]
    iintro ⟨H1, ⟨H2, -⟩, H3, -⟩
    isplitl [H1]; · iexact H1
    isplitl [H2] <;> iassumption
  · rw [tripAt_0 m c j h, if_pos h]

theorem init :
    iprop(records m K ∗ levAts L lv ∗ positions c ∗ payToks c ∗ credits c ∗ arrays m c ∗ buffers c
        ∗ (∃ f, ((c : Thread nD τ).loc cc0_stg0_0) ↦{fullShare} f) ∗ ∃ W, owes (c : Thread nD τ) (O₀ c) W)
      ⊢ St m c K ⟨0, 0, 0, 0, 0, 0, 0, 0, 0⟩ := by
  unfold positions payToks credits arrays buffers St
  simp only [debt_start, barSt_0, xSt_0, holds_xA, holds_xM]
  rw [bigSep_cells (F := F) (fun k : Cx => atPos ER (cell c k) 0 ∅ 0), w_split m c]
  iintro ⟨#HR, HL, ⟨PB, PX, PL, PS, PR, PE⟩, ⟨TB, TX, TL, TS, TR, TE⟩, ⟨CE, CR⟩, ⟨HA, HW⟩, ⟨HX, ⟨%f1, H1⟩, ⟨%f2, H2⟩⟩, ⟨%f3, H3⟩, HO⟩
  ihave H1' := (ring_split c f1) $$ H1
  ihave H2' := (buf_split c f2) $$ H2
  ihave H3' := (out_split c f3) $$ H3
  isplitr; · iexact HR
  isplitl [HL]; · iexact HL
  isplitl [PB TB]; · isplitl [PB] <;> iassumption
  isplitl [PR CR H3' TE]
  · iapply (show iprop((bigSep Finset.univ fun n => atPos ER (cell c (kRecv n)) 0 ∅ 0)
        ∗ (bigSep Finset.univ fun n => cred (if n ≠ c then tallyAt (cell c (kRecv n)) () Np else 0))
        ∗ (bigSep Finset.univ fun n => rowAny c n) ∗ bigSep Finset.univ fun n => dutyTok ER (cell n (kEntry c)) 0 ())
      ⊢ (bigSep Finset.univ fun n => rowSt m c 0 0 0 n : sProp 𝕄) from by
        simp only [← bigSep_sep']; exact bmono fun n => row_start m c n)
    isplitl [PR]; · iexact PR
    isplitl [CR]; · iexact CR
    isplitl [H3'] <;> iassumption
  isplitl [PX TX HA HX]
  · isplitl [PX]; · iexact PX
    isplitl [TX]; · iexact TX
    isplitl [HA] <;> iassumption
  isplitl [HW TL]
  · iapply (show iprop((bigSep Finset.univ fun j => blkAt m c j)
        ∗ bigSep Finset.univ fun j => dutyTok ER (cell c (kLoad (slotOf (trip c j)))) (trip c j / 6) ())
      ⊢ (bigSep Finset.univ fun j => tileSt m c 0 0 j : sProp 𝕄) from by
        rw [← bigSep_sep']; exact bmono fun j => Entails.of_eq (tileSt_pre m c 0 0 j (le_refl _) (Nat.zero_le _)).symm)
    isplitl [HW] <;> iassumption
  isplitl [PL H1']
  · iapply (show iprop(records m K ∗ (bigSep Finset.univ fun s => atPos ER (cell c (kLoad s)) 0 ∅ 0) ∗ bigSep Finset.univ fun s => slotAny c s)
      ⊢ (bigSep Finset.univ fun s => slotSt m c (cnt 0 s) (cnt 0 s) s : sProp 𝕄) from by
        rw [← bigSep_sep']; exact bigSep_with_persistent fun s _ => slot_start m K c s)
    isplitr; · iexact HR
    isplitl [PL] <;> iassumption
  isplitl [H2' PE CE PS TS TR]
  · iapply (show iprop((bigSep Finset.univ fun j => bufAny c j)
        ∗ ((bigSep Finset.univ fun j => atPos ER (cell c (kEntry j)) 0 ∅ 0)
          ∗ bigSep Finset.univ fun j => cred (if j ≠ c then tallyAt (cell c (kEntry j)) () 1 else 0))
        ∗ (bigSep Finset.univ fun j => atPos ER (cell c (kSend j)) 0 ∅ 0)
        ∗ (bigSep Finset.univ fun j => dutyTok ER (cell c (kSend j)) 0 ()) ∗ bigSep Finset.univ fun j => dutyTok ER (cell j (kRecv c)) 0 ())
      ⊢ (bigSep Finset.univ fun j => tripSt m c 0 0 j : sProp 𝕄) from by
        simp only [← bigSep_sep']; exact bmono fun j => trip_start m c j)
    isplitl [H2']; · iexact H2'
    isplitl [PE CE]; · isplitl [PE] <;> iassumption
    isplitl [PS]; · iexact PS
    isplitl [TS] <;> iassumption
  iexact HO

/-! ## The end -/

/-- A cell past its last round is closed: its counter is zero. -/
theorem close_cell (k : Cx) (R : ℕ) (h : ∀ r, R ≤ r → ¬ active c k r) :
    iprop(records m K ∗ atPos ER (cell c k) R ∅ 0) ⊢ (|={Set.univ}=> semVal (cell c k) 0 : sProp 𝕄) := by
  iintro ⟨#HR, H⟩
  ihave ⟨HI, -⟩ := (records_at m K c k) $$ HR
  iapply (Rounds.cell_close ER (Rd m) (Set.mem_univ (K (c, k))) (fun h => h) (R := R) (fun r hr => duties_none m c k r (h r hr)))
  isplitl [HI] <;> iassumption

/-- A family whose members each give a member of another, under what all devices know. -/
theorem family {I : Type} [Fintype I] [DecidableEq I] {R : sProp 𝕄} [BI.Persistent R] {Φ Ψ : I → sProp 𝕄}
    (h : ∀ i, iprop(R ∗ Φ i) ⊢ |={Set.univ}=> Ψ i) : iprop(R ∗ bigSep Finset.univ Φ) ⊢ |={Set.univ}=> bigSep Finset.univ Ψ :=
  (bigSep_with_persistent fun i _ => h i).trans (bigSep_fupd _ _)

theorem row_end (n : Dev nD) :
    iprop(records m K ∗ rowSt m c 16 1 16 n) ⊢ |={Set.univ}=> iprop(semVal (cell c (kRecv n)) 0 ∗ rowProd m c n) := by
  have hn : n.val < 16 := n.isLt
  by_cases h : n = c
  · subst h; rw [rowSt_own1]
    iintro ⟨#HR, H, HP⟩
    imod (close_cell m K n (kRecv n) 0 fun r _ ha => ha.2 rfl) $$ [H] with H'
    · isplitr <;> iassumption
    imodintro; isplitl [H'] <;> iassumption
  · rw [rowSt_back m c 16 1 16 n h hn]
    iintro ⟨#HR, H, HP⟩
    imod (close_cell m K c (kRecv n) 1 fun r hr ha => by have := ha.1; omega) $$ [H] with H'
    · isplitr <;> iassumption
    imodintro; isplitl [H'] <;> iassumption

theorem slot_end (s : Fin 6) :
    iprop(records m K ∗ slotSt m c (cnt 16 s) (cnt 16 s) s) ⊢ |={Set.univ}=> iprop(semVal (cell c (kLoad s)) 0 ∗ slotAny c s) := by
  iintro ⟨#HR, H⟩
  ihave ⟨HP, -, HS⟩ := (slotSt_free m c (cnt 16 s) s) $$ H
  imod (close_cell m K c (kLoad s) (cnt 16 s) fun r hr ha => by
    have hs := s.isLt; change s.val + 6 * r < 16 at ha; unfold cnt at hr; omega) $$ [HP] with H'
  · isplitr <;> iassumption
  imodintro; isplitl [H'] <;> iassumption

theorem trip_end (j : Dev nD) :
    iprop(records m K ∗ tripSt m c 45 15 j)
      ⊢ |={Set.univ}=> iprop(semVal (cell c (kEntry j)) 0 ∗ semVal (cell c (kSend j)) 0 ∗ bufAny c j) := by
  unfold tripSt
  by_cases h : j = c
  · subst h; rw [tripAt_own]
    iintro ⟨#HR, HB, HE, HS⟩
    imod (close_cell m K j (kEntry j) 0 fun r _ ha => ha.2 rfl) $$ [HE] with HE'
    · isplitr <;> iassumption
    imod (close_cell m K j (kSend j) 0 fun r _ ha => ha.2 rfl) $$ [HS] with HS'
    · isplitr <;> iassumption
    imodintro
    isplitl [HE']; · iexact HE'
    isplitl [HS'] <;> iassumption
  · have ht : trip c j < 15 := by
      have h1 := trip_lt c j
      have h2 : trip c j ≠ 15 := fun h' => h (trip_eq_15.1 h')
      omega
    rw [show stage 45 15 (trip c j) = 4 from if_pos ht, tripAt_4 m c j h]
    iintro ⟨#HR, HB, HE, HS⟩
    imod (close_cell m K c (kEntry j) 1 fun r hr ha => by have := ha.1; omega) $$ [HE] with HE'
    · isplitr <;> iassumption
    imod (close_cell m K c (kSend j) 1 fun r hr ha => by have := ha.1; omega) $$ [HS] with HS'
    · isplitr <;> iassumption
    imodintro
    isplitl [HE']; · iexact HE'
    isplitl [HS'] <;> iassumption

/-- What is left: every counter at zero, the arrays as launched, the buffers, the result. -/
def left : sProp 𝕄 :=
  iprop((bigSep Finset.univ fun k : Cx => semVal (cell c k) 0) ∗ arrays m c ∗ buffers c)

theorem fin :
    St m c K ⟨2, 16, 2, 16, 16, 45, 1, 16, 15⟩
      ⊢ |={Set.univ}=> iprop(left m c ∗ (((c : Thread nD τ).loc cc0_stg0_0) ↦{fullShare} outAt m c) ∗ ∃ W, owes (c : Thread nD τ) 0 W) := by
  unfold left arrays buffers St
  simp only [debt_zero c 16 45 (le_refl _) (le_refl _), barSt_2, xSt_2, holds_xA, holds_xM]
  rw [bigSep_cells (F := F) (fun k : Cx => semVal (cell c k) 0), w_split m c]
  iintro ⟨#HR, HL, PB, Hrow, ⟨PX, HX, HA⟩, Htile, Hslot, Htrip, HO⟩
  imod (close_cell m K c kBar 1 fun r hr ha => by change r = 0 at ha; omega) $$ [PB] with VB
  · isplitr <;> iassumption
  imod (close_cell m K c kX 1 fun r hr ha => by change r = 0 at ha; omega) $$ [PX] with VX
  · isplitr <;> iassumption
  imod (family (row_end m K c)) $$ [Hrow] with Hrow'
  · isplitr <;> iassumption
  imod (family (slot_end m K c)) $$ [Hslot] with Hslot'
  · isplitr <;> iassumption
  imod (family (trip_end m K c)) $$ [Htrip] with Htrip'
  · isplitr <;> iassumption
  simp only [bigSep_sep']
  icases Hrow' with ⟨VR, Hrow'⟩
  icases Hslot' with ⟨VL, Hslot'⟩
  icases Htrip' with ⟨VE, VS, Hbuf⟩
  ihave Hout := (out_join m c) $$ Hrow'
  ihave H1 := (ring_join (F := F) c) $$ Hslot'
  ihave H2 := (buf_join (F := F) c) $$ Hbuf
  ihave HW := (show (bigSep Finset.univ fun j => tileSt m c 16 16 j) ⊢ (bigSep Finset.univ fun j => blkAt m c j : sProp 𝕄) from
    bmono fun j => Entails.of_eq (tileSt_back m c 16 16 j (trip_lt c j))) $$ Htile
  imodintro
  isplitl [VB VX VL VS VR VE HA HW HX H1 H2]
  · isplitl [VB VX VL VS VR VE]
    · isplitl [VB]; · iexact VB
      isplitl [VX]; · iexact VX
      isplitl [VL]; · iexact VL
      isplitl [VS]; · iexact VS
      isplitl [VR] <;> iassumption
    isplitl [HA HW]
    · isplitl [HA] <;> iassumption
    isplitl [HX]; · iexists _; iexact HX
    isplitl [H1] <;> iassumption
  isplitl [Hout] <;> iassumption

end Cert.A2A
end
-- ==== Proof.Launch.lean ====
/-
# The run of the sixteen devices

The launch deals every device its cells, its tokens and its credit; each body runs from that to the end; and what the
run leaves in memory is read off.
-/
module

public import proofs.«01_k».proof.Proof.Body3
public import proofs.«01_k».proof.Proof.Ends
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The data of the one region -/

/-- The kernel's own semaphores: all of the protocol's but the barrier. -/
def osem (k : Unit ⊕ Fin 6 ⊕ Dev nD ⊕ Dev nD ⊕ Dev nD) : SemLoc sig := csem (.inr k)

theorem ownSemFacts : Pipeline.OwnSemFacts cfg0.spec osem := by decide

/-- A device's part of the launch: its places, and the tokens of the duties it pays. -/
def dealt (K : Dev nD × Cx → ℕ) : sProp 𝕄 := iprop(records m K ∗ positions c ∗ payToks c)
def start : sProp 𝕄 := iprop((∃ K, dealt m c K) ∗ levAts L lv ∗ credits c ∗ arrays m c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => iprop(start m c ∗ buffers c)
    | ⟨_ + 1, _⟩ => left m c
  q _ := fullShare
  owed t := match t with
    | ⟨0, _⟩ => O₀ c
    | ⟨_ + 1, _⟩ => 0

theorem share_full (w : Fin cfg0.W) : (dats m 0 c).share w = fullShare := by unfold Dat.share; split <;> rfl

theorem owns_whole_iff (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

def bodyPost : sProp 𝕄 :=
  iprop(left m c ∗ (dats m 0 c).owesAt () t0_0.succ ∗ ∃ f : Buf (Elt F) ((c : Thread nD τ).loc cc0_stg0_0), ⌜f = outAt m c⌝ ∗ (((c : Thread nD τ).loc cc0_stg0_0) ↦{fullShare} f))
def bodyPre : sProp 𝕄 :=
  iprop((start m c ∗ buffers c) ∗ (dats m 0 c).owesAt () t0_0.castSucc
    ∗ ∃ d, ∃ f : Buf (Elt F) ((c : Thread nD τ).loc cc0_stg0_0), ⌜f = (dats m 0 c).before (0 : Fin 1) t0_0 d⌝ ∗ (((c : Thread nD τ).loc cc0_stg0_0) ↦{fullShare} f))

theorem body_pre_post : bodyPre m c ⊢ WP c (atOps cc0_body) fun _ => bodyPost m c := by
  unfold bodyPre start dealt
  iintro ⟨⟨⟨⟨%K, HR, HP, HT⟩, HL, HC, HA⟩, HB⟩, Ho, ⟨%d, %f, -, Hs⟩⟩
  iapply (wp_fupd frame (wpE (defs₀ (F := F)) 𝒱₀ (c : Thread nD τ) none) (E := Set.univ))
  iapply (body m K c (Q := fun _ => iprop(|={Set.univ}=> bodyPost m c)) ((fin m K c).trans (BI.fupd_mono (by
    unfold bodyPost Dat.owesAt Pipeline.owesWithin
    iintro ⟨HL, Hs, ⟨%W, Ho⟩⟩
    isplitl [HL]; · iexact HL
    isplitl [Ho]
    · iexists W
      isplitr; · ipureintro; exact fun _ _ => Or.inl trivial
      iexact Ho
    iexists _
    isplitr; · ipureintro; rfl
    iexact Hs))))
  iapply (init m K c)
  unfold Dat.owesAt Pipeline.owesWithin
  icases Ho with ⟨%W, -, Ho⟩
  isplitl [HR]; · iexact HR
  isplitl [HL]; · iexact HL
  isplitl [HP]; · iexact HP
  isplitl [HT]; · iexact HT
  isplitl [HC]; · iexact HC
  isplitl [HA]; · iexact HA
  isplitl [HB]; · iexact HB
  isplitl [Hs]; · iexists f; iexact Hs
  iexists W; iexact Ho

set_option maxRecDepth 4000 in
theorem body_obligation : BodyObligation (dats (F := F) m 0 c) (defs₀ (F := F)) 𝒱₀ () Set.univ := fun t => by
  rw [fin_N0 t, bigSep_W0, bigSep_W0]
  simp only [owns_whole_iff]
  exact body_pre_post m c

/-! ## What the launch mints and how it is dealt -/

abbrev cellAt (dk : Dev nD × Cx) : GSem nD τ sig := cell dk.1 dk.2
theorem cellAt_injective : Function.Injective cellAt := fun a b h => Prod.ext (cell_inj h).1 (cell_inj h).2
def allCells : Finset (GSem nD τ sig) := Finset.univ.map ⟨cellAt, cellAt_injective⟩

/-- The duties of a device's cells: barrier, `x`'s load, and for each device its tile's load, a send, a receive, an entry. -/
abbrev Tx : Type := Unit ⊕ Unit ⊕ Dev nD ⊕ Dev nD ⊕ Dev nD ⊕ Dev nD
def dutyCell (c : Dev nD) : Tx → Cx
  | .inl _ => kBar
  | .inr (.inl _) => kX
  | .inr (.inr (.inl j)) => kLoad (slotOf (trip c j))
  | .inr (.inr (.inr (.inl j))) => kSend j
  | .inr (.inr (.inr (.inr (.inl j)))) => kRecv j
  | .inr (.inr (.inr (.inr (.inr j)))) => kEntry j
def dutyRound (c : Dev nD) : Tx → ℕ
  | .inr (.inr (.inl j)) => trip c j / 6
  | _ => 0
abbrev tokAt (d : Dev nD × Tx) : GSem nD τ sig × ℕ × Unit := (cell d.1 (dutyCell d.1 d.2), dutyRound d.1 d.2, ())

theorem duty_inj (t t' : Tx) (h : dutyCell c t = dutyCell c t') (hr : dutyRound c t = dutyRound c t') : t = t' := by
  rcases t with ⟨⟩ | ⟨⟩ | j | j | j | j <;> rcases t' with ⟨⟩ | ⟨⟩ | j' | j' | j' | j' <;>
    simp only [dutyCell, Sum.inl.injEq, Sum.inr.injEq, reduceCtorEq] at h <;> first | rfl | (subst h; rfl) | skip
  have hs : trip c j % 6 = trip c j' % 6 := congrArg Fin.val h
  change trip c j / 6 = trip c j' / 6 at hr
  have ht : trip c j = trip c j' := by omega
  rw [← peer_trip c j, ht, peer_trip]
theorem tokAt_injective : Function.Injective tokAt := by
  rintro ⟨c, t⟩ ⟨c', t'⟩ h
  obtain ⟨rfl, hk⟩ := cell_inj (congrArg Prod.fst h)
  exact Prod.ext rfl (duty_inj c t t' hk (congrArg (fun x => x.2.1) h))
def allToks : Finset (GSem nD τ sig × ℕ × Unit) := Finset.univ.map ⟨tokAt, tokAt_injective⟩

def u₀ : UU := (initOf (Pipeline.cells cfgs cellOf_inj) (Pipeline.launchToks cfgs cellOf_inj), initOf allCells allToks)

/-- The tokens of the duties of a device's own cells. -/
def ownToks : sProp 𝕄 := bigSep Finset.univ fun t : Tx => dutyTok ER (cell c (dutyCell c t)) (dutyRound c t) ()

/-- What the minted element gives device `c`, and what the devices together make of it. -/
def G : sProp 𝕄 :=
  iprop((bigSep Finset.univ fun k : Cx => roundState ER (Rd m) (cell c k) 0)
    ∗ (bigSep Finset.univ fun k : Cx => iprop(atPos ER (cell c k) 0 ∅ 0 ∗ reached ER (cell c k) 0)) ∗ ownToks c)
def G' : sProp 𝕄 := iprop(∃ K, dealt m c K)

theorem fund : BI.own (ER (initOf allCells allToks)) ⊢ (|==> bigSep Finset.univ (G m) : sProp 𝕄) := by
  have hC (Φ : GSem nD τ sig → sProp 𝕄) :
      bigSep allCells Φ = bigSep Finset.univ fun c : Dev nD => bigSep Finset.univ fun k : Cx => Φ (cell c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  unfold G
  simp only [bigSep_sep']
  rw [← hC fun g => roundState ER (Rd m) g 0, ← hC fun g => atPos ER g 0 ∅ 0, ← hC fun g => reached ER g 0, ← hT]
  iintro H
  imod (Rounds.fund ER (Rd m) allCells allToks) $$ H with ⟨Hst, Hr, Hat, Htok⟩
  imodintro
  isplitl [Hst]; · iexact Hst
  isplitl [Hat Hr]
  · isplitl [Hat] <;> iassumption
  iexact Htok

/-- The barrier is the launch's one semaphore that no kernel scopes. -/
theorem unscoped_eq : (unscopedSems0 c : sProp 𝕄) = semVal (cell c kBar) 0 := by
  unfold unscopedSems0; rw [bigSep_eq_bigSepL_of_eq [SemLoc.reg barSem] (by decide) (by decide)]; rfl

theorem sems_eq : (iprop(unscopedSems0 c ∗ Pipeline.ownSems0 (Ix := Unit) (Name := ℕ) (U := UU) (Lvl := ℕ) (Val := Elt F) (τ := τ) osem c) : sProp 𝕄)
    = bigSep Finset.univ fun k : Cx => semVal (cell c k) 0 := by
  rw [unscoped_eq, BI.bigSep_univ_sum, show (Finset.univ : Finset Unit) = {()} from rfl, bigSep_singleton]
  rfl

/-- A device's cells get their invariants. -/
theorem allot : iprop(Pipeline.ownSems0 (Ix := Unit) (Name := ℕ) (U := UU) (Lvl := ℕ) (Val := Elt F) (τ := τ) osem c ∗ unscopedSems0 c ∗ G m c)
    ⊢ |={Set.univ}=> iprop((bigSep Finset.univ fun k : Cx => iprop((∃ κ : ℕ, cellInv ER (Rd m) κ (cell c k)) ∗ reached ER (cell c k) 0))
        ∗ positions c ∗ ownToks c) := by
  have hinv : iprop((bigSep Finset.univ fun k : Cx => semVal (cell c k) 0) ∗ bigSep Finset.univ fun k : Cx => roundState ER (Rd m) (cell c k) 0)
      ⊢ (|={Set.univ}=> bigSep Finset.univ fun k : Cx => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  unfold G positions
  simp only [bigSep_sep']
  iintro ⟨Ho, Hu, Hst, ⟨Hat, Hr⟩, Ht⟩
  ihave Hv := (Entails.of_eq (sems_eq (F := F) c)) $$ [Ho Hu]
  · isplitl [Hu] <;> iassumption
  imod hinv $$ [Hv Hst] with HI
  · isplitl [Hv] <;> iassumption
  imodintro
  isplitl [HI Hr]
  · isplitl [HI] <;> iassumption
  isplitl [Hat] <;> iassumption

/-- A device's own tokens, kind by kind. -/
theorem ownToks_eq : (ownToks c : sProp 𝕄) = iprop(dutyTok ER (cell c kBar) 0 () ∗ dutyTok ER (cell c kX) 0 ()
    ∗ (bigSep Finset.univ fun j => dutyTok ER (cell c (kLoad (slotOf (trip c j)))) (trip c j / 6) ())
    ∗ (bigSep Finset.univ fun j => dutyTok ER (cell c (kSend j)) 0 ())
    ∗ (bigSep Finset.univ fun j => dutyTok ER (cell c (kRecv j)) 0 ())
    ∗ bigSep Finset.univ fun j => dutyTok ER (cell c (kEntry j)) 0 ()) := by
  unfold ownToks
  rw [BI.bigSep_univ_sum, BI.bigSep_univ_sum, BI.bigSep_univ_sum, BI.bigSep_univ_sum, BI.bigSep_univ_sum,
    show (Finset.univ : Finset Unit) = {()} from rfl, bigSep_singleton, bigSep_singleton]
  rfl

/-- The receive and entry tokens go to the device that pays them. -/
theorem deal : (bigSep Finset.univ fun c : Dev nD => (ownToks c : sProp 𝕄)) = bigSep Finset.univ fun c : Dev nD => payToks c := by
  simp only [ownToks_eq]
  unfold payToks
  simp only [bigSep_sep']
  rw [BI.bigSep_univ_comm fun (c j : Dev nD) => (dutyTok ER (cell c (kRecv j)) 0 () : sProp 𝕄),
    BI.bigSep_univ_comm fun (c j : Dev nD) => (dutyTok ER (cell c (kEntry j)) 0 () : sProp 𝕄)]

/-- All invariants under one choice of names, and each device's share. -/
theorem regroup :
    (bigSep Finset.univ fun c : Dev nD => iprop((bigSep Finset.univ fun k : Cx => iprop((∃ κ : ℕ, cellInv ER (Rd m) κ (cell c k)) ∗ reached ER (cell c k) 0))
        ∗ positions c ∗ ownToks c) : sProp 𝕄) ⊢ bigSep Finset.univ (G' m) := by
  rw [bigSep_sep', bigSep_sep', deal, ← bigSep_sep',
    ← BI.bigSep_univ_prod (fun dk : Dev nD × Cx => iprop((∃ κ : ℕ, cellInv ER (Rd m) κ (cell dk.1 dk.2)) ∗ reached ER (cell dk.1 dk.2) 0)), bigSep_sep']
  iintro ⟨⟨HI, Hr⟩, HP⟩
  ihave HK := (BI.bigSep_exists_pi Finset.univ (fun (dk : Dev nD × Cx) (κ : ℕ) => (cellInv ER (Rd m) κ (cell dk.1 dk.2) : sProp 𝕄))) $$ HI
  icases HK with ⟨%K, HI⟩
  iapply (bigSep_with_persistent (R := records m K) (Φ := fun c => iprop(positions c ∗ payToks c)) fun c _ => by
    unfold G' dealt
    iintro ⟨HR, HP⟩
    iexists K
    isplitl [HR] <;> iassumption)
  isplitl [HI Hr]
  · unfold records; rw [bigSep_sep']; isplitl [HI] <;> iassumption
  iexact HP

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => allot m c).trans (bigSep_fupd _ _)).trans (BI.fupd_mono (regroup m))

/-! ## The credit -/

/-- What the others owe device `c`. -/
def due (c : Dev nD) : CellTallies nD τ sig Unit :=
  (∑ n, if n ≠ c then tallyAt (cell c (kEntry n)) () 1 else 0) + ∑ n, if n ≠ c then tallyAt (cell c (kRecv n)) () Np else 0

theorem sum_owed : (∑ d, O₀ d) = ∑ d, due d := by
  unfold O₀ owed due
  simp only [and_true]
  rw [Finset.sum_add_distrib, Finset.sum_add_distrib, Finset.sum_comm, Finset.sum_comm (f := fun (d n : Dev nD) => if n ≠ d then tallyAt (cell n (kRecv d)) () Np else 0)]
  simp only [ne_comm]

theorem due_at (d : Dev nD) (g : GSem nD τ sig) (h : due d g ≠ 0) : g.1 = (d : Thread nD τ) := by
  by_contra hg
  refine h ?_
  have ht (k : Cx) (n : ℕ) : tallyAt (Ix := Unit) (cell d k) () n g = 0 := tallyAt_ne_cell (fun h' => hg (congrArg Prod.fst h')) () n
  unfold due
  rw [Pi.add_apply, Finset.sum_apply, Finset.sum_apply, Finset.sum_eq_zero, Finset.sum_eq_zero, add_zero]
  · intro n _; split
    · exact ht _ _
    · rfl
  · intro n _; split
    · exact ht _ _
    · rfl

theorem launch_credits : (Pipeline.launchCred O₀ c : sProp 𝕄) ⊢ credits c := by
  rw [Pipeline.launchCred_of_sum O₀ due sum_owed due_at c]
  unfold due credits
  refine (cred_add _ _).1.trans ?_
  rw [Pipeline.cred_finsetSum, Pipeline.cred_finsetSum]

/-! ## The side conditions -/

theorem start_of :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = arrays m c from unscopedRest0_eq c _]
  unfold start G'
  iintro ⟨HA, HL, HC, -, HG⟩
  ihave HC' := (launch_credits (F := F) c) $$ HC
  imodintro
  isplitl
  · isplitl [HG]; · iexact HG
    isplitl [HL]; · iexact HL
    isplitl [HC'] <;> iassumption
  · iempintro

theorem buffers_eq : (Pipeline.scopedRest cfg0.spec c : sProp 𝕄) = buffers c := scopedRest0_eq c

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ buffers c) from rfl, buffers_eq]
  iintro ⟨HS, -, HB⟩
  isplitl [HS] <;> iassumption

theorem leave : (dats m 0 c).Φ (Fin.last cfg0.N)
    ⊢ iprop((unscopedSems0 c ∗ arrays m c) ∗ Pipeline.ownSems0 osem c ∗ Pipeline.scopedRest cfg0.spec c) := by
  rw [show (dats m 0 c).Φ (Fin.last cfg0.N) = left m c from rfl, buffers_eq]
  unfold left
  rw [← sems_eq]
  iintro ⟨⟨HU, HO⟩, HA, HB⟩
  isplitl [HU HA]
  · isplitl [HU] <;> iassumption
  isplitl [HO] <;> iassumption

theorem stage_waits : (levAts L lv : sProp 𝕄) ⊢ Pipeline.cellsWaits cfgs (dats m) () 0 c :=
  Pipeline.cellsWaits_intro cfgs (dats m) () 0 c fun w s t => by
    have hlv : lv ((c : Thread nD τ), SemLoc.dma ⟨0, by decide⟩) () = 0 := by unfold lv; rw [kindOf_stage]
    have hs : SemLoc.dma ((cfg0.win w).sem s) = (SemLoc.dma ⟨0, by decide⟩ : SemLoc sig) := by
      fin_cases w; fin_cases s; rfl
    rcases t with ⟨_ | _, ht⟩
    · have := mayWait (F := F) c (SemLoc.dma ⟨0, by decide⟩) (fun _ => True) (fun _ => True) (fun _ => by rw [hlv]; decide) (by rw [hlv]; decide)
      rw [← hs] at this
      exact this
    · exact Entails.trans (by iintro -; iempintro) (Entails.of_eq (MayWait_zero (c : Thread nD τ) _ ()).symm)

/-! ## The run -/

/-- Each device's result array holds the result, and its arguments what they held. -/
def Ran (r : PUnit × MemSt nD τ sig (Elt F)) : Prop := ∀ c : Dev nD,
  r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)

/-- The one block written back is the whole array. -/
theorem result_eq : (dats m 0 c).arrAt (0 : Fin 1) cfg0.N = outAt m c := by
  have hr (f : Buf (Elt F) ((c : Thread nD τ).loc main_v1)) : (win0_0.blk t0_0).view.read (Elt F) f = f :=
    Memref.read_access_unit_zero (Elt F) main_v1
      (show (fun a => (win0_0.index t0_0) a * main_v1.ty.shape.size a) = fun _ => 0 from funext fun a => by fin_cases a <;> decide)
      (fun a => by fin_cases a <;> decide) f
  refine (hr _).symm.trans ?_
  rw [show cfg0.N = t0_0.val + 1 from rfl, (dats m 0 c).arrAt_succ (0 : Fin 1) t0_0, flush0_0, if_pos rfl]
  exact View.read_write_univ _ _

/-- What of the end can be read at the launch: the counters the kernel does not scope, and the arguments. -/
def Seen (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ s.mem ((c : Thread nD τ).loc main_arg1) = m ((c : Thread nD τ).loc main_arg1)

theorem see (s' : Phys nD τ sig (Elt F)) :
    iprop((unscopedSems0 c ∗ arrays m c) ∗ emp ∗ SI s') ⊢ (|={Set.univ}=> iprop(⌜Seen m c s'.mem⌝ ∗ SI s') : sProp 𝕄) := by
  unfold arrays
  iintro ⟨⟨HU, H0, H1⟩, -, HS⟩
  imod (Pipeline.unscopedSems0_read (X := unscopedSems0 c) (c := c) fupd_intro s') $$ [HU HS] with ⟨%hu, HS⟩
  · isplitl [HU] <;> iassumption
  icombine HS H0 gives %h0
  icombine HS H1 gives %h1
  imodintro
  isplitr
  · ipureintro; exact ⟨hu, funext fun i => h0 i (Finset.mem_univ i), funext fun i => h1 i (Finset.mem_univ i)⟩
  iexact HS

set_option maxRecDepth 8000 in
theorem run_main : θ_run defs (onTc (τ := τ) (main (F := F))) ⟨m, fun _ => 0, ρ⟩ (fun r => Ran m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w; exact Nat.succ_pos _) (harr := arr_whole0) (hstage := stage_whole0)
    (hshare := share_full m) (hdistinct := winFacts0.arr_inj)
    (O₀ := O₀) (howed₀ := fun _ => rfl) (howedN := fun _ => rfl)
    (L := L) (lv := lv) (hL := L_of_ne) (hwaits := stage_waits m)
    (G := G m) (G' := G' m) (u₀ := u₀)
    (hu₀ := by
      unfold u₀
      iintro H
      ihave ⟨HP, HX⟩ := (ownU_pair _ _) $$ H
      imod (fund m) $$ HX with HG
      imodintro
      isplitl [HP] <;> iassumption)
    (hglob := glob m) (hA := fun _ _ => rfl) (hpf := fun _ k => k.elim0)
    (X := start m) (Y := fun c => iprop(unscopedSems0 c ∗ arrays m c)) (Z := fun _ => iprop(emp))
    (hX := start_of m ρ) (hin := enter m) (hout := leave m)
    (QY := Seen m) (hY := see m)
    (hQ := fun _ h hs => ⟨fun c => ⟨((h c).1 0).trans (result_eq m c), (h c).2.2.2⟩, sem_eq_zero hs fun c => (h c).2.2.1⟩)

end Cert.A2A
end
-- ==== Proof.Value.lean ====
/-
# The result is the reference's

Over the ideal values every rounding is the identity, so a product's entry is the sum over the contracted axis, and the
result's row `256 j + r` at device `c` is row `256 j + r`, columns `128 c …`, of the whole product.
-/
module

public import proofs.«01_k».proof.Proof.Mem
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.A2A

open Cert.KernelIdeal Cert.KernelIdeal.Gen
open Idealize.ShloMosaic Idealize.ShloMosaic.ValueIdx
open Idealize.ShloMosaic.TcCoe

variable (m : (ℓ : Loc nD τ sig) → Buf (Elt Ideal) ℓ)

/-- The reference's function: both arguments rounded, multiplied, the product rounded. -/
abbrev refOut (X : FVec Ideal Cert.ReferenceIdeal.S4096x4096 .f32) (W : FVec Ideal Cert.ReferenceIdeal.S4096x2048 .f32) :
    FVec Ideal Cert.ReferenceIdeal.S4096x2048 .bf16 :=
  truncf .bf16 (Host.dotGeneral Cert.ReferenceIdeal.dot_S4096x4096_S4096x2048_S4096x2048_1_0_0_1_n_n none
    (truncf .bf16 X (by decide)) (truncf .bf16 W (by decide))) (by decide)

theorem refOut_at (X : FVec Ideal Cert.ReferenceIdeal.S4096x4096 .f32) (W : FVec Ideal Cert.ReferenceIdeal.S4096x2048 .f32)
    (r : Fin 4096) (l : Fin 2048) : refOut X W (ValueIdx.ix2 r l) = ∑ k : Fin 4096, X (ValueIdx.ix2 r k) * W (ValueIdx.ix2 k l) :=
  StackMember.dotGeneral_plain_apply none (φ₁ := .bf16) (φ₂ := .bf16) X W r l

/-- Column tile `j` of `w` in the ring, its unit axis dropped, is columns `128 j …` of `w`. -/
theorem tile_at (c j : Dev nD) (k : Fin 4096) (l : Fin 128) :
    shapeCast S4096x128 (tileAt m c j) shapeCasts_S1x4096x128_S4096x128 (ValueIdx.ix2 k l)
      = m ((c : Thread nD τ).loc main_arg1) (ValueIdx.ix2 k (⟨128 * j.val + l.val, by have := j.isLt; have := l.isLt; simp only [nD] at *; omega⟩ : Fin 2048)) := by
  have h : shapeCast S4096x128 (tileAt m c j) shapeCasts_S1x4096x128_S4096x128 (ValueIdx.ix2 k l)
      = (wBlk j).view.read (Elt Ideal) (m ((c : Thread nD τ).loc main_arg1)) (ValueIdx.ix2 k l) := by
    show (wBlk j).view.read (Elt Ideal) (m ((c : Thread nD τ).loc main_arg1)) (Shape.reshapeEquiv _ (Shape.reshapeEquiv _ (ValueIdx.ix2 k l))) = _
    rw [Shape.reshapeEquiv_reshapeEquiv, Shape.reshapeEquiv_self]
  rw [h]
  show m ((c : Thread nD τ).loc main_arg1) ((wBlk j).view.emb (ValueIdx.ix2 k l)) = _
  refine congrArg _ (funext fun a => Fin.ext ?_)
  have e := ValueKit.view_emb_slice_whole_unit_val main_arg1 _ _ (blk_inb j) (ValueIdx.ix2 k l) a
  match a with
  | ⟨0, _⟩ => exact e.trans (Nat.zero_add _)
  | ⟨1, _⟩ => exact e

theorem prod_at (c j : Dev nD) (r : Fin 256) (l : Fin 128) :
    prodAt m c j (ValueIdx.ix2 r l) = ∑ k : Fin 4096, xAt m c (ValueIdx.ix2 r k)
      * m ((c : Thread nD τ).loc main_arg1) (ValueIdx.ix2 k (⟨128 * j.val + l.val, by have := j.isLt; have := l.isLt; simp only [nD] at *; omega⟩ : Fin 2048)) := by
  refine (Ideal.matmul_plain_apply none (φ₁ := .bf16) (φ₂ := .bf16) (xAt m c)
    (shapeCast S4096x128 (tileAt m c j) shapeCasts_S1x4096x128_S4096x128) (constant S256x128 .f32 0x00000000#32) r l).trans ?_
  rw [show (constant (F := Ideal) S256x128 .f32 0x00000000#32) (ValueIdx.ix2 r l) = 0 from Ideal.ofBits_zero_f32, zero_add]
  exact Finset.sum_congr rfl fun k _ => congrArg _ (tile_at m c j k l)

/-- Device `c`'s result is block `c` of the reference's, when the devices start from the blocks of the reference's
    arguments. -/
theorem out_eq (X : FVec Ideal Cert.ReferenceIdeal.S4096x4096 .f32) (W : FVec Ideal Cert.ReferenceIdeal.S4096x2048 .f32)
    (hX : ∀ c : Dev nD, xAt m c = Layout.block ⟨2, ![256, 4096]⟩ ⟨2, ![4096, 4096]⟩ 0 16 c X)
    (hW : ∀ c : Dev nD, m ((c : Thread nD τ).loc main_arg1) = W) (c : Dev nD) :
    outAt m c = Layout.block ⟨2, ![4096, 128]⟩ ⟨2, ![4096, 2048]⟩ 1 16 c (refOut X W) := by
  funext i
  have h0 : (i 0).val < 4096 := (i 0).isLt
  have h1 : (i 1).val < 128 := (i 1).isLt
  have hc : c.val < 16 := c.isLt
  rw [Layout.block_apply]
  have hi : (Layout.Tiles.idx (S := ⟨2, ![4096, 128]⟩) (T := ⟨2, ![4096, 2048]⟩) (a := 1) (k := 16) (by decide) c i)
      = ValueIdx.ix2 (⟨(i 0).val, h0⟩ : Fin 4096) (⟨128 * c.val + (i 1).val, by omega⟩ : Fin 2048) := by
    funext a; apply Fin.ext
    match a with
    | ⟨0, _⟩ => rfl
    | ⟨1, _⟩ => show c.val * 128 + (i 1).val = 128 * c.val + (i 1).val; omega
  refine Eq.trans ?_ (congrArg (refOut X W) hi).symm
  rw [refOut_at]
  unfold outAt
  have hj : (fun | ⟨0, _⟩ => ⟨(i 0).val % 256, Nat.mod_lt _ (by decide)⟩ | ⟨1, _⟩ => ⟨(i 1).val, (i 1).isLt⟩ : S256x128.Idx)
      = ValueIdx.ix2 (⟨(i 0).val % 256, Nat.mod_lt _ (by decide)⟩ : Fin 256) (⟨(i 1).val, h1⟩ : Fin 128) := by
    funext a; apply Fin.ext
    match a with
    | ⟨0, _⟩ => rfl
    | ⟨1, _⟩ => rfl
  refine (congrArg _ hj).trans ((prod_at m _ c _ _).trans (Finset.sum_congr rfl fun k _ => ?_))
  rw [hX, hW, Layout.block_apply]
  refine congrArg (· * _) (congrArg X (funext fun a => Fin.ext ?_))
  match a with
  | ⟨0, _⟩ => show (i 0).val / 256 * 256 + (i 0).val % 256 = (i 0).val; omega
  | ⟨1, _⟩ => rfl

end Cert.A2A
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-! ## The kernel and its idealization are the same text -/

theorem defs₀_eq {F : FTy → Type} [FloatOps F] : Cert.Kernel.defs₀ (F := F) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs :=
  congrArg (Pipeline.defs (Cert.Kernel.pcfgs (F := F))) defs₀_eq

/-! ## The claims -/

/-- The run is proved over any float values: at `Bits` it is the kernel's frame. -/
theorem frame_Kernel : Cert.quiescent_Kernel := fun m g _ => by
  rw [defs_eq]
  exact (θ_run (Cert.KernelIdeal.defs (F := Bits)) _ _).mono (fun _ h => ⟨fun c => (h.1 c).2, h.2⟩)
    (Cert.A2A.run_main (F := Bits) m g)

theorem frame_KernelIdeal : Cert.quiescent_KernelIdeal := fun m g _ =>
  (θ_run (Cert.KernelIdeal.defs (F := Ideal)) _ _).mono (fun _ h => ⟨fun c => (h.1 c).2, h.2⟩)
    (Cert.A2A.run_main (F := Ideal) m g)

/-- The reference has no semaphore at all. -/
theorem frame_ReferenceIdeal : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run m g)

theorem value : Cert.algebraic_KernelIdeal_ReferenceIdeal := fun m g m' g' _ hin =>
  ⟨Cert.A2A.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h.1 c).1.trans (Cert.A2A.out_eq m _ _ (fun c => (hin c).1) (fun c => (hin c).2) c), (h.1 c).2⟩)
      (Cert.A2A.run_main (F := Ideal) m g),
    (θ_run (Cert.ReferenceIdeal.defs (F := Ideal)) _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_Kernel, frame_KernelIdeal, frame_ReferenceIdeal, trivial, value⟩

end Cert.Proof

end
